-- ==== Defs.lean ====
def Pre_Kernel [hPre_buckets_in_range : Cert.Pre_buckets_in_range.Facts] (m : (ℓ : Loc Cert.Kernel.nD Cert.Kernel.τ Cert.Kernel.sig) → Buf (Elt Bits) ℓ) : Prop :=
  ∀ c : Dev Cert.Kernel.nD,
    (Cert.Pre_buckets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_buckets_in_range : Cert.Pre_buckets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_buckets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_buckets_in_range [hPre_buckets_in_range : Cert.Pre_buckets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_buckets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_buckets_in_range : Cert.Pre_buckets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_buckets_in_range : Cert.Pre_buckets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_buckets_in_range [hReferenceIdeal : Cert.ReferenceIdeal.Facts] [hPre_buckets_in_range : Cert.Pre_buckets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_buckets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_buckets_in_range : Cert.Pre_buckets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_buckets_in_range : Cert.Pre_buckets_in_range.Facts),
    quiescent_Kernel (hKernel := hKernel) (hPre_buckets_in_range := hPre_buckets_in_range)
    ∧ quiescent_KernelIdeal (hKernelIdeal := hKernelIdeal) (hPre_buckets_in_range := hPre_buckets_in_range)
    ∧ quiescent_ReferenceIdeal (hReferenceIdeal := hReferenceIdeal)
    ∧ quiescent_ReferenceIdeal_pre_buckets_in_range (hReferenceIdeal := hReferenceIdeal) (hPre_buckets_in_range := hPre_buckets_in_range)
    ∧ preserves_Kernel_KernelIdeal
    ∧ algebraic_KernelIdeal_ReferenceIdeal (hKernelIdeal := hKernelIdeal) (hReferenceIdeal := hReferenceIdeal) (hPre_buckets_in_range := hPre_buckets_in_range)
-- ==== Pre_buckets_in_range.lean ====
abbrev S2x96x384x384 : Shape := ⟨4, ![2, 96, 384, 384]⟩
abbrev S2x64x3x3 : Shape := ⟨4, ![2, 64, 3, 3]⟩
abbrev S2x384x384 : Shape := ⟨3, ![2, 384, 384]⟩
abbrev S_ : Shape := ⟨0, ![]⟩

class Facts : Prop where
  bcast_S_S2x384x384 : S_.BroadcastsInDim S2x384x384 (![] : Fin 0 → Fin S2x384x384.rank)
  reducesTo_S2x384x384_S_d0_1_2 : S2x384x384.ReducesTo [0, 1, 2] S_
  h_S_ : 0 < S_.numel

variable [Facts]

def fn {F : FTy → Type} [FloatOps F] (main_arg0 : FVec F S2x96x384x384 .f32) (main_arg1 : FVec F S2x64x3x3 .f32) (main_arg2 : IVec S2x384x384 32) : IVec S_ 1 :=
  let main_c : IVec S_ 32 := constantI S_ 32 0#32
  let main_v0 : IVec S2x384x384 32 := broadcastInDim S2x384x384 ![] bcast_S_S2x384x384 main_c
  let main_v1 : IVec S2x384x384 1 := cmpi .sge main_arg2 main_v0
  let main_c_0 : IVec S_ 32 := constantI S_ 32 64#32
  let main_v2 : IVec S2x384x384 32 := broadcastInDim S2x384x384 ![] bcast_S_S2x384x384 main_c_0
  let main_v3 : IVec S2x384x384 1 := cmpi .slt main_arg2 main_v2
  let main_v4 : IVec S2x384x384 1 := andi main_v1 main_v3
  let main_c_1 : IVec S_ 1 := constantI S_ 1 1#1
  let main_v5 : IVec S_ 1 := (fun x v => Host.reduce IntOp.andi x v reducesTo_S2x384x384_S_d0_1_2 h_S_) main_v4 main_c_1
  main_v5
-- ==== Kernel.lean ====
abbrev S2x96x384x384 : Shape := ⟨4, ![2, 96, 384, 384]⟩
abbrev S2x64x3x3 : Shape := ⟨4, ![2, 64, 3, 3]⟩
abbrev S2x384x384 : Shape := ⟨3, ![2, 384, 384]⟩
abbrev S2x64x9 : Shape := ⟨3, ![2, 64, 9]⟩
abbrev S2x9x64 : Shape := ⟨3, ![2, 9, 64]⟩
abbrev S1152 : Shape := ⟨1, ![1152]⟩
abbrev S294912 : Shape := ⟨1, ![294912]⟩
abbrev S2654208 : Shape := ⟨1, ![2654208]⟩
abbrev S576 : Shape := ⟨1, ![576]⟩
abbrev S9216 : Shape := ⟨1, ![9216]⟩
abbrev S82944 : Shape := ⟨1, ![82944]⟩
abbrev S_ : Shape := ⟨0, ![]⟩
abbrev S16 : Shape := ⟨1, ![16]⟩
abbrev S2x9x384x384 : Shape := ⟨4, ![2, 9, 384, 384]⟩
abbrev S1x9x384x384 : Shape := ⟨4, ![1, 9, 384, 384]⟩
abbrev S1x4x384x384 : Shape := ⟨4, ![1, 4, 384, 384]⟩
abbrev S4x384x384 : Shape := ⟨3, ![4, 384, 384]⟩
abbrev S4x1x384 : Shape := ⟨3, ![4, 1, 384]⟩
abbrev S4x47x384 : Shape := ⟨3, ![4, 47, 384]⟩
abbrev S4x48x384 : Shape := ⟨3, ![4, 48, 384]⟩
abbrev S4x48x1 : Shape := ⟨3, ![4, 48, 1]⟩
abbrev S4x48x383 : Shape := ⟨3, ![4, 48, 383]⟩
abbrev S1x1x48x384 : Shape := ⟨4, ![1, 1, 48, 384]⟩
abbrev S48x384 : Shape := ⟨2, ![48, 384]⟩
abbrev S1x48x384 : Shape := ⟨3, ![1, 48, 384]⟩
abbrev S1x4x48x384 : Shape := ⟨4, ![1, 4, 48, 384]⟩

abbrev nBuf : Table → Nat
  | .hbm => 10
  | .local .tc .vmem => 6
  | .local .scVector .vmem => 3
  | _ => 0

abbrev bufTy : (tb : Table) → Fin (nBuf tb) → BufTy
  | .hbm, ⟨0, _⟩ => ⟨S2x96x384x384, .f32⟩
  | .hbm, ⟨1, _⟩ => ⟨S2x64x3x3, .f32⟩
  | .hbm, ⟨2, _⟩ => ⟨S2x384x384, .i32⟩
  | .hbm, ⟨3, _⟩ => ⟨S2x64x9, .f32⟩
  | .hbm, ⟨4, _⟩ => ⟨S2x9x64, .f32⟩
  | .hbm, ⟨5, _⟩ => ⟨S1152, .f32⟩
  | .hbm, ⟨6, _⟩ => ⟨S294912, .i32⟩
  | .hbm, ⟨7, _⟩ => ⟨S2654208, .f32⟩
  | .hbm, ⟨8, _⟩ => ⟨S2x9x384x384, .f32⟩
  | .hbm, ⟨9, _⟩ => ⟨S2x96x384x384, .f32⟩
  | .local .tc .vmem, ⟨0, _⟩ => ⟨S1x9x384x384, .f32⟩
  | .local .tc .vmem, ⟨1, _⟩ => ⟨S1x9x384x384, .f32⟩
  | .local .tc .vmem, ⟨2, _⟩ => ⟨S1x4x384x384, .f32⟩
  | .local .tc .vmem, ⟨3, _⟩ => ⟨S1x4x384x384, .f32⟩
  | .local .tc .vmem, ⟨4, _⟩ => ⟨S1x4x384x384, .f32⟩
  | .local .tc .vmem, ⟨5, _⟩ => ⟨S1x4x384x384, .f32⟩
  | .local .scVector .vmem, ⟨0, _⟩ => ⟨S576, .f32⟩
  | .local .scVector .vmem, ⟨1, _⟩ => ⟨S9216, .i32⟩
  | .local .scVector .vmem, ⟨2, _⟩ => ⟨S82944, .f32⟩
  | _, _ => ⟨S2x96x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c9_i32 : BitVec 32 := 9#32
  let v30 : BitVec 32 := Scalar.muli v18 c9_i32
  let c64_i32 : BitVec 32 := 64#32
  let v31 : BitVec 32 := Scalar.muli v30 c64_i32
  ![v31.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c147456_i32 : BitVec 32 := 147456#32
  let v32 : BitVec 32 := Scalar.muli v18 c147456_i32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c9216_i32 : BitVec 32 := 9216#32
  let v29 : BitVec 32 := Scalar.muli v28 c9216_i32
  let v33 : BitVec 32 := Scalar.addi v32 v29
  ![v33.toNat]
@[reducible] def k0_t1_loop : Scf.Loop 32 :=
  let c0_i32_11 : BitVec 32 := 0#32
  let c576_i32 : BitVec 32 := 576#32
  let v34 : BitVec 32 := Scalar.addi c0_i32_11 c576_i32
  let c1_i32_12 : BitVec 32 := 1#32
  ⟨c0_i32_11, v34, c1_i32_12⟩
def k0_off3 (k0_t1 : Fin k0_t1_loop.trips) : Fin 1 → Nat :=
  let c0_i32_11 : BitVec 32 := 0#32
  let c1_i32_12 : BitVec 32 := 1#32
  let arg8 : BitVec 32 := Scf.iv c0_i32_11 c1_i32_12 k0_t1
  let c16_i32_35 : BitVec 32 := 16#32
  let v71 : BitVec 32 := Scalar.muli arg8 c16_i32_35
  let v72 : Index := Scalar.indexCast v71
  ![v72.toNat]

def k0_chk1 (v75 : IVec S16 32) : Prop :=
  (∀ a x, ((![v75] : Fin 1 → IVec S16 32) a x).toNat < S576.size a)
theorem k0_idx1_inb : ∀ (v75 : IVec S16 32) (k0_hw1 : k0_chk1 v75), ∀ a x, ((![v75] : Fin 1 → IVec S16 32) a x).toNat < S576.size a := fun v75 k0_hw1 => k0_hw1
def k0_off4 (k0_t1 : Fin k0_t1_loop.trips) : Fin 1 → Nat :=
  let c0_i32_38 : BitVec 32 := 0#32
  let c0_i32_11 : BitVec 32 := 0#32
  let c1_i32_12 : BitVec 32 := 1#32
  let arg8 : BitVec 32 := Scf.iv c0_i32_11 c1_i32_12 k0_t1
  let c16_i32_37 : BitVec 32 := 16#32
  let v77 : BitVec 32 := Scalar.muli arg8 c16_i32_37
  let v78 : BitVec 32 := Scalar.addi c0_i32_38 v77
  let v79 : Index := Scalar.indexCast v78
  ![v79.toNat]

def k0_chk2 (v82 : IVec S16 32) : Prop :=
  (∀ a x, ((![v82] : Fin 1 → IVec S16 32) a x).toNat < S576.size a)
theorem k0_idx2_inb : ∀ (v82 : IVec S16 32) (k0_hw2 : k0_chk2 v82), ∀ a x, ((![v82] : Fin 1 → IVec S16 32) a x).toNat < S576.size a := fun v82 k0_hw2 => k0_hw2
def k0_off5 (k0_t1 : Fin k0_t1_loop.trips) : Fin 1 → Nat :=
  let c9216_i32_41 : BitVec 32 := 9216#32
  let c0_i32_11 : BitVec 32 := 0#32
  let c1_i32_12 : BitVec 32 := 1#32
  let arg8 : BitVec 32 := Scf.iv c0_i32_11 c1_i32_12 k0_t1
  let c16_i32_40 : BitVec 32 := 16#32
  let v84 : BitVec 32 := Scalar.muli arg8 c16_i32_40
  let v85 : BitVec 32 := Scalar.addi c9216_i32_41 v84
  let v86 : Index := Scalar.indexCast v85
  ![v86.toNat]

def k0_chk3 (v89 : IVec S16 32) : Prop :=
  (∀ a x, ((![v89] : Fin 1 → IVec S16 32) a x).toNat < S576.size a)
theorem k0_idx3_inb : ∀ (v89 : IVec S16 32) (k0_hw3 : k0_chk3 v89), ∀ a x, ((![v89] : Fin 1 → IVec S16 32) a x).toNat < S576.size a := fun v89 k0_hw3 => k0_hw3
def k0_off6 (k0_t1 : Fin k0_t1_loop.trips) : Fin 1 → Nat :=
  let c18432_i32 : BitVec 32 := 18432#32
  let c0_i32_11 : BitVec 32 := 0#32
  let c1_i32_12 : BitVec 32 := 1#32
  let arg8 : BitVec 32 := Scf.iv c0_i32_11 c1_i32_12 k0_t1
  let c16_i32_42 : BitVec 32 := 16#32
  let v91 : BitVec 32 := Scalar.muli arg8 c16_i32_42
  let v92 : BitVec 32 := Scalar.addi c18432_i32 v91
  let v93 : Index := Scalar.indexCast v92
  ![v93.toNat]

def k0_chk4 (v96 : IVec S16 32) : Prop :=
  (∀ a x, ((![v96] : Fin 1 → IVec S16 32) a x).toNat < S576.size a)
theorem k0_idx4_inb : ∀ (v96 : IVec S16 32) (k0_hw4 : k0_chk4 v96), ∀ a x, ((![v96] : Fin 1 → IVec S16 32) a x).toNat < S576.size a := fun v96 k0_hw4 => k0_hw4
def k0_off7 (k0_t1 : Fin k0_t1_loop.trips) : Fin 1 → Nat :=
  let c27648_i32 : BitVec 32 := 27648#32
  let c0_i32_11 : BitVec 32 := 0#32
  let c1_i32_12 : BitVec 32 := 1#32
  let arg8 : BitVec 32 := Scf.iv c0_i32_11 c1_i32_12 k0_t1
  let c16_i32_43 : BitVec 32 := 16#32
  let v98 : BitVec 32 := Scalar.muli arg8 c16_i32_43
  let v99 : BitVec 32 := Scalar.addi c27648_i32 v98
  let v100 : Index := Scalar.indexCast v99
  ![v100.toNat]

def k0_chk5 (v103 : IVec S16 32) : Prop :=
  (∀ a x, ((![v103] : Fin 1 → IVec S16 32) a x).toNat < S576.size a)
theorem k0_idx5_inb : ∀ (v103 : IVec S16 32) (k0_hw5 : k0_chk5 v103), ∀ a x, ((![v103] : Fin 1 → IVec S16 32) a x).toNat < S576.size a := fun v103 k0_hw5 => k0_hw5
def k0_off8 (k0_t1 : Fin k0_t1_loop.trips) : Fin 1 → Nat :=
  let c36864_i32 : BitVec 32 := 36864#32
  let c0_i32_11 : BitVec 32 := 0#32
  let c1_i32_12 : BitVec 32 := 1#32
  let arg8 : BitVec 32 := Scf.iv c0_i32_11 c1_i32_12 k0_t1
  let c16_i32_44 : BitVec 32 := 16#32
  let v105 : BitVec 32 := Scalar.muli arg8 c16_i32_44
  let v106 : BitVec 32 := Scalar.addi c36864_i32 v105
  let v107 : Index := Scalar.indexCast v106
  ![v107.toNat]

def k0_chk6 (v110 : IVec S16 32) : Prop :=
  (∀ a x, ((![v110] : Fin 1 → IVec S16 32) a x).toNat < S576.size a)
theorem k0_idx6_inb : ∀ (v110 : IVec S16 32) (k0_hw6 : k0_chk6 v110), ∀ a x, ((![v110] : Fin 1 → IVec S16 32) a x).toNat < S576.size a := fun v110 k0_hw6 => k0_hw6
def k0_off9 (k0_t1 : Fin k0_t1_loop.trips) : Fin 1 → Nat :=
  let c46080_i32 : BitVec 32 := 46080#32
  let c0_i32_11 : BitVec 32 := 0#32
  let c1_i32_12 : BitVec 32 := 1#32
  let arg8 : BitVec 32 := Scf.iv c0_i32_11 c1_i32_12 k0_t1
  let c16_i32_45 : BitVec 32 := 16#32
  let v112 : BitVec 32 := Scalar.muli arg8 c16_i32_45
  let v113 : BitVec 32 := Scalar.addi c46080_i32 v112
  let v114 : Index := Scalar.indexCast v113
  ![v114.toNat]

def k0_chk7 (v117 : IVec S16 32) : Prop :=
  (∀ a x, ((![v117] : Fin 1 → IVec S16 32) a x).toNat < S576.size a)
theorem k0_idx7_inb : ∀ (v117 : IVec S16 32) (k0_hw7 : k0_chk7 v117), ∀ a x, ((![v117] : Fin 1 → IVec S16 32) a x).toNat < S576.size a := fun v117 k0_hw7 => k0_hw7
def k0_off10 (k0_t1 : Fin k0_t1_loop.trips) : Fin 1 → Nat :=
  let c55296_i32 : BitVec 32 := 55296#32
  let c0_i32_11 : BitVec 32 := 0#32
  let c1_i32_12 : BitVec 32 := 1#32
  let arg8 : BitVec 32 := Scf.iv c0_i32_11 c1_i32_12 k0_t1
  let c16_i32_46 : BitVec 32 := 16#32
  let v119 : BitVec 32 := Scalar.muli arg8 c16_i32_46
  let v120 : BitVec 32 := Scalar.addi c55296_i32 v119
  let v121 : Index := Scalar.indexCast v120
  ![v121.toNat]

def k0_chk8 (v124 : IVec S16 32) : Prop :=
  (∀ a x, ((![v124] : Fin 1 → IVec S16 32) a x).toNat < S576.size a)
theorem k0_idx8_inb : ∀ (v124 : IVec S16 32) (k0_hw8 : k0_chk8 v124), ∀ a x, ((![v124] : Fin 1 → IVec S16 32) a x).toNat < S576.size a := fun v124 k0_hw8 => k0_hw8
def k0_off11 (k0_t1 : Fin k0_t1_loop.trips) : Fin 1 → Nat :=
  let c64512_i32 : BitVec 32 := 64512#32
  let c0_i32_11 : BitVec 32 := 0#32
  let c1_i32_12 : BitVec 32 := 1#32
  let arg8 : BitVec 32 := Scf.iv c0_i32_11 c1_i32_12 k0_t1
  let c16_i32_47 : BitVec 32 := 16#32
  let v126 : BitVec 32 := Scalar.muli arg8 c16_i32_47
  let v127 : BitVec 32 := Scalar.addi c64512_i32 v126
  let v128 : Index := Scalar.indexCast v127
  ![v128.toNat]

def k0_chk9 (v131 : IVec S16 32) : Prop :=
  (∀ a x, ((![v131] : Fin 1 → IVec S16 32) a x).toNat < S576.size a)
theorem k0_idx9_inb : ∀ (v131 : IVec S16 32) (k0_hw9 : k0_chk9 v131), ∀ a x, ((![v131] : Fin 1 → IVec S16 32) a x).toNat < S576.size a := fun v131 k0_hw9 => k0_hw9
def k0_off12 (k0_t1 : Fin k0_t1_loop.trips) : Fin 1 → Nat :=
  let c73728_i32 : BitVec 32 := 73728#32
  let c0_i32_11 : BitVec 32 := 0#32
  let c1_i32_12 : BitVec 32 := 1#32
  let arg8 : BitVec 32 := Scf.iv c0_i32_11 c1_i32_12 k0_t1
  let c16_i32_48 : BitVec 32 := 16#32
  let v133 : BitVec 32 := Scalar.muli arg8 c16_i32_48
  let v134 : BitVec 32 := Scalar.addi c73728_i32 v133
  let v135 : Index := Scalar.indexCast v134
  ![v135.toNat]
def k0_off13 (i : grid0.Coords) (c0_i32_15 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c9_i32_14 : BitVec 32 := 9#32
  let v35 : BitVec 32 := Scalar.muli v18 c9_i32_14
  let v36 : BitVec 32 := Scalar.addi v35 c0_i32_15
  let c147456_i32_16 : BitVec 32 := 147456#32
  let v37 : BitVec 32 := Scalar.muli v36 c147456_i32_16
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c9216_i32 : BitVec 32 := 9216#32
  let v29 : BitVec 32 := Scalar.muli v28 c9216_i32
  let v38 : BitVec 32 := Scalar.addi v37 v29
  ![v38.toNat]
abbrev grid1 : Pipeline.Grid := ⟨2, ![2, 24], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x9x384x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4x384x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x384x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x96x384x384 : Shape := ⟨4, ![2, 96, 384, 384]⟩
abbrev S2x64x3x3 : Shape := ⟨4, ![2, 64, 3, 3]⟩
abbrev S2x384x384 : Shape := ⟨3, ![2, 384, 384]⟩
abbrev S_ : Shape := ⟨0, ![]⟩
abbrev S2x96x386x386 : Shape := ⟨4, ![2, 96, 386, 386]⟩
abbrev S2x384x384x1 : Shape := ⟨4, ![2, 384, 384, 1]⟩
abbrev S1 : Shape := ⟨1, ![1]⟩
abbrev S1x1x1x1 : Shape := ⟨4, ![1, 1, 1, 1]⟩
abbrev S2x384x384x3x3 : Shape := ⟨5, ![2, 384, 384, 3, 3]⟩
abbrev S2x384x384x1x1 : Shape := ⟨5, ![2, 384, 384, 1, 1]⟩
abbrev S2x1x384x384 : Shape := ⟨4, ![2, 1, 384, 384]⟩

abbrev nBuf : Space → Nat
  | .hbm => 94
  | .vmem => 0
  | .smem => 0
  | _ => 0

abbrev bufTy : (tb : Table) → Fin (tcTables nBuf tb) → BufTy
  | .hbm, ⟨0, _⟩ => ⟨S2x96x384x384, .f32⟩
  | .hbm, ⟨1, _⟩ => ⟨S2x64x3x3, .f32⟩
  | .hbm, ⟨2, _⟩ => ⟨S2x384x384, .i32⟩
  | .hbm, ⟨3, _⟩ => ⟨S_, .i32⟩
  | .hbm, ⟨4, _⟩ => ⟨S_, .f32⟩
  | .hbm, ⟨5, _⟩ => ⟨S2x96x386x386, .f32⟩
  | .hbm, ⟨6, _⟩ => ⟨S_, .i32⟩
  | .hbm, ⟨7, _⟩ => ⟨S2x384x384, .i32⟩
  | .hbm, ⟨8, _⟩ => ⟨S2x384x384, .i1⟩
  | .hbm, ⟨9, _⟩ => ⟨S_, .i32⟩
  | .hbm, ⟨10, _⟩ => ⟨S2x384x384, .i32⟩
  | .hbm, ⟨11, _⟩ => ⟨S2x384x384, .i32⟩
  | .hbm, ⟨12, _⟩ => ⟨S2x384x384, .i32⟩
  | .hbm, ⟨13, _⟩ => ⟨S2x384x384x1, .i32⟩
  | .hbm, ⟨14, _⟩ => ⟨S1, .i32⟩
  | .hbm, ⟨15, _⟩ => ⟨S_, .i32⟩
  | .hbm, ⟨16, _⟩ => ⟨S2x384x384x1, .i32⟩
  | .hbm, ⟨17, _⟩ => ⟨S2x384x384x1, .i1⟩
  | .hbm, ⟨18, _⟩ => ⟨S1x1x1x1, .i32⟩
  | .hbm, ⟨19, _⟩ => ⟨S2x384x384x1, .i32⟩
  | .hbm, ⟨20, _⟩ => ⟨S2x384x384x1, .i1⟩
  | .hbm, ⟨21, _⟩ => ⟨S2x384x384x1, .i1⟩
  | .hbm, ⟨22, _⟩ => ⟨S_, .i1⟩
  | .hbm, ⟨23, _⟩ => ⟨S2x384x384, .i1⟩
  | .hbm, ⟨24, _⟩ => ⟨S2x384x384x3x3, .f32⟩
  | .hbm, ⟨25, _⟩ => ⟨S2x384x384x3x3, .i1⟩
  | .hbm, ⟨26, _⟩ => ⟨S_, .f32⟩
  | .hbm, ⟨27, _⟩ => ⟨S2x384x384x3x3, .f32⟩
  | .hbm, ⟨28, _⟩ => ⟨S2x384x384x3x3, .f32⟩
  | .hbm, ⟨29, _⟩ => ⟨S_, .f32⟩
  | .hbm, ⟨30, _⟩ => ⟨S2x96x384x384, .f32⟩
  | .hbm, ⟨31, _⟩ => ⟨S2x384x384x1x1, .f32⟩
  | .hbm, ⟨32, _⟩ => ⟨S2x384x384, .f32⟩
  | .hbm, ⟨33, _⟩ => ⟨S2x1x384x384, .f32⟩
  | .hbm, ⟨34, _⟩ => ⟨S2x96x384x384, .f32⟩
  | .hbm, ⟨35, _⟩ => ⟨S2x96x384x384, .f32⟩
  | .hbm, ⟨36, _⟩ => ⟨S2x96x384x384, .f32⟩
  | .hbm, ⟨37, _⟩ => ⟨S2x96x384x384, .f32⟩
  | .hbm, ⟨38, _⟩ => ⟨S2x384x384x1x1, .f32⟩
  | .hbm, ⟨39, _⟩ => ⟨S2x384x384, .f32⟩
  | .hbm, ⟨40, _⟩ => ⟨S2x1x384x384, .f32⟩
  | .hbm, ⟨41, _⟩ => ⟨S2x96x384x384, .f32⟩
  | .hbm, ⟨42, _⟩ => ⟨S2x96x384x384, .f32⟩
  | .hbm, ⟨43, _⟩ => ⟨S2x96x384x384, .f32⟩
  | .hbm, ⟨44, _⟩ => ⟨S2x96x384x384, .f32⟩
  | .hbm, ⟨45, _⟩ => ⟨S2x384x384x1x1, .f32⟩
  | .hbm, ⟨46, _⟩ => ⟨S2x384x384, .f32⟩
  | .hbm, ⟨47, _⟩ => ⟨S2x1x384x384, .f32⟩
  | .hbm, ⟨48, _⟩ => ⟨S2x96x384x384, .f32⟩
  | .hbm, ⟨49, _⟩ => ⟨S2x96x384x384, .f32⟩
  | .hbm, ⟨50, _⟩ => ⟨S2x96x384x384, .f32⟩
  | .hbm, ⟨51, _⟩ => ⟨S2x96x384x384, .f32⟩
  | .hbm, ⟨52, _⟩ => ⟨S2x384x384x1x1, .f32⟩
  | .hbm, ⟨53, _⟩ => ⟨S2x384x384, .f32⟩
  | .hbm, ⟨54, _⟩ => ⟨S2x1x384x384, .f32⟩
  | .hbm, ⟨55, _⟩ => ⟨S2x96x384x384, .f32⟩
  | .hbm, ⟨56, _⟩ => ⟨S2x96x384x384, .f32⟩
  | .hbm, ⟨57, _⟩ => ⟨S2x96x384x384, .f32⟩
  | .hbm, ⟨58, _⟩ => ⟨S2x96x384x384, .f32⟩
  | .hbm, ⟨59, _⟩ => ⟨S2x384x384x1x1, .f32⟩
  | .hbm, ⟨60, _⟩ => ⟨S2x384x384, .f32⟩
  | .hbm, ⟨61, _⟩ => ⟨S2x1x384x384, .f32⟩
  | .hbm, ⟨62, _⟩ => ⟨S2x96x384x384, .f32⟩
  | .hbm, ⟨63, _⟩ => ⟨S2x96x384x384, .f32⟩
  | .hbm, ⟨64, _⟩ => ⟨S2x96x384x384, .f32⟩
  | .hbm, ⟨65, _⟩ => ⟨S2x96x384x384, .f32⟩
  | .hbm, ⟨66, _⟩ => ⟨S2x384x384x1x1, .f32⟩
  | .hbm, ⟨67, _⟩ => ⟨S2x384x384, .f32⟩
  | .hbm, ⟨68, _⟩ => ⟨S2x1x384x384, .f32⟩
  | .hbm, ⟨69, _⟩ => ⟨S2x96x384x384, .f32⟩
  | .hbm, ⟨70, _⟩ => ⟨S2x96x384x384, .f32⟩
  | .hbm, ⟨71, _⟩ => ⟨S2x96x384x384, .f32⟩
  | .hbm, ⟨72, _⟩ => ⟨S2x96x384x384, .f32⟩
  | .hbm, ⟨73, _⟩ => ⟨S2x384x384x1x1, .f32⟩
  | .hbm, ⟨74, _⟩ => ⟨S2x384x384, .f32⟩
  | .hbm, ⟨75, _⟩ => ⟨S2x1x384x384, .f32⟩
  | .hbm, ⟨76, _⟩ => ⟨S2x96x384x384, .f32⟩
  | .hbm, ⟨77, _⟩ => ⟨S2x96x384x384, .f32⟩
  | .hbm, ⟨78, _⟩ => ⟨S2x96x384x384, .f32⟩
  | .hbm, ⟨79, _⟩ => ⟨S2x96x384x384, .f32⟩
  | .hbm, ⟨80, _⟩ => ⟨S2x384x384x1x1, .f32⟩
  | .hbm, ⟨81, _⟩ => ⟨S2x384x384, .f32⟩
  | .hbm, ⟨82, _⟩ => ⟨S2x1x384x384, .f32⟩
  | .hbm, ⟨83, _⟩ => ⟨S2x96x384x384, .f32⟩
  | .hbm, ⟨84, _⟩ => ⟨S2x96x384x384, .f32⟩
  | .hbm, ⟨85, _⟩ => ⟨S2x96x384x384, .f32⟩
  | .hbm, ⟨86, _⟩ => ⟨S2x96x384x384, .f32⟩
  | .hbm, ⟨87, _⟩ => ⟨S2x384x384x1x1, .f32⟩
  | .hbm, ⟨88, _⟩ => ⟨S2x384x384, .f32⟩
  | .hbm, ⟨89, _⟩ => ⟨S2x1x384x384, .f32⟩
  | .hbm, ⟨90, _⟩ => ⟨S2x96x384x384, .f32⟩
  | .hbm, ⟨91, _⟩ => ⟨S2x96x384x384, .f32⟩
  | .hbm, ⟨92, _⟩ => ⟨S2x96x384x384, .f32⟩
  | .hbm, ⟨93, _⟩ => ⟨S2x96x384x384, .f32⟩
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== Proof.Buckets.lean ====
/-
  The precondition read at one pixel: when `buckets_in_range` is all ones, every bucket index is below 64.
-/
module

public import proofs.«01_k».proof.Pre_buckets_in_range
public import Idealize.ShloMosaic.Lib.ReduceAll
public import Idealize.ShloMosaic.Lib.WordCmp
public import Idealize.ShloMosaic.Lib.StableHlo

@[expose] public section

noncomputable section

namespace Cert.Pre_buckets_in_range

open Idealize.ShloMosaic

/-- A word that is at least 0 and less than 64 as a signed number is less than 64 as a natural number. -/
theorem word_lt (v : BitVec 32) (h : IntOp.andi (IntOp.cmpi .sge v 0#32) (IntOp.cmpi .slt v 64#32) = 1#1) : v.toNat < 64 := by
  obtain ⟨h0, h1⟩ := IntOp.andi_eq_one.1 h
  have h0 := IntOp.cmpi_sge.1 h0
  have h1 := IntOp.cmpi_slt.1 h1
  simp only [BitVec.toInt_eq_toNat_cond, BitVec.toNat_ofNat] at h0 h1
  omega

instance : Subsingleton S_.Idx := ⟨fun a b => funext fun i => i.elim0⟩

/-- Every bucket index is below 64 when the precondition holds. -/
theorem bucket_lt {F : FTy → Type} [FloatOps F] [Facts] (img : FVec F S2x96x384x384 .f32) (bank : FVec F S2x64x3x3 .f32)
    (bucket : IVec S2x384x384 32) (h : fn img bank bucket = fun _ => 1#1) (x : S2x384x384.Idx) : (bucket x).toNat < 64 :=
  word_lt _ (Host.reduce_andi_all _ _ _ _ (fun i => i.elim0) (congrFun h _) x)

end Cert.Pre_buckets_in_range

end
-- ==== Proof.KernelIdeal.Base.lean ====
/-
  What the whole proof of the kernel program shares: the program as the SparseCore launch theorem sees it, the resource
  algebra, the memory locations, and the function the SparseCore call computes.

  Thirty-two tasks (2 SparseCores by 16 vector subcores) run the call. Task `(c, s)` has number `w = 2 s + c`. It works on
  image `w / 16` and on the pixels `(w % 16) * 9216 ..` of that image, and writes, for each of the nine taps, the weight the
  bank holds for the pixel's bucket. `weightAt` is that function over the whole output; `owner` says which task writes
  which word.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Writes
public import Idealize.ShloMosaic.Lib.Pipeline.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left factor of the right factor. -/
def EP : Emb UP (MT nD τ sig (HIx 1) (Elt F) ℕ UU ℕ) := (Emb.inl : Emb UP (UP × Counters)).trans embR

omit [FloatOps F] in
instance EP_landsIn : (EP : Emb UP 𝕄).LandsIn (upEmb : UEmb _ 𝕄) := by unfold EP embR; infer_instance

/-! ## Locations -/

abbrev imgLoc (d : Dev nD) : Loc nD τ sig := (SparseCore.T d).loc main_arg0
abbrev bankLoc (d : Dev nD) : Loc nD τ sig := (SparseCore.T d).loc main_v2
abbrev bucketLoc (d : Dev nD) : Loc nD τ sig := (SparseCore.T d).loc main_v3
abbrev outLoc (d : Dev nD) : Loc nD τ sig := (SparseCore.T d).loc main_v4

/-! ## The function the SparseCore call computes -/

/-- Position `k` of a one-axis array, taken modulo its length. -/
def flat {s : Shape} (h : ∀ a, 0 < s.size a) (k : ℕ) : s.Idx := fun a => ⟨k % s.size a, Nat.mod_lt _ (h a)⟩

theorem bank_pos : ∀ a, 0 < S1152.size a := by decide
theorem bucket_pos : ∀ a, 0 < S294912.size a := by decide

/-- The weight for output word `n` (of 2 images by 9 taps by 147456 pixels): the bank's entry for the image, the tap, and
    the bucket of the pixel. -/
def weightAt (bank : S1152.Idx → Elt F .f32) (bucket : S294912.Idx → Elt F .i32) (n : ℕ) : Elt F .f32 :=
  bank (flat bank_pos (n / 1327104 * 576 + n / 147456 % 9 * 64
    + BitVec.toNat (bucket (flat bucket_pos (n / 1327104 * 147456 + n % 147456)))))

/-- The whole output. -/
def weights (bank : S1152.Idx → Elt F .f32) (bucket : S294912.Idx → Elt F .i32) : S2654208.Idx → Elt F .f32 :=
  fun x => weightAt bank bucket (x 0).val

/-! ## Which task writes which word -/

/-- The number of the task that writes word `n`: 16 tasks an image, each 9216 pixels of it. -/
def owner (n : ℕ) : ℕ := n / 1327104 * 16 + n / 9216 % 16

/-- The words task `w` writes. -/
def taskSet (w : ℕ) : Finset S2654208.Idx := Finset.univ.filter fun x => owner (x 0).val = w
/-- The words SparseCore `c`'s tasks write. -/
def coreSet (c : ℕ) : Finset S2654208.Idx := Finset.univ.filter fun x => owner (x 0).val % 2 = c

theorem mem_taskSet {w : ℕ} {x : S2654208.Idx} : x ∈ taskSet w ↔ owner (x 0).val = w := by simp [taskSet]
theorem mem_coreSet {c : ℕ} {x : S2654208.Idx} : x ∈ coreSet c ↔ owner (x 0).val % 2 = c := by simp [coreSet]

theorem owner_lt (x : S2654208.Idx) : owner (x 0).val < 32 := by
  have h : (x 0).val < 2654208 := (x 0).isLt
  unfold owner; omega

theorem taskSet_disjoint {v w : ℕ} (h : v ≠ w) : Disjoint (taskSet v) (taskSet w) :=
  Finset.disjoint_left.mpr fun x hv hw => h ((mem_taskSet.mp hv).symm.trans (mem_taskSet.mp hw))
theorem coreSet_disjoint {v w : ℕ} (h : v ≠ w) : Disjoint (coreSet v) (coreSet w) :=
  Finset.disjoint_left.mpr fun x hv hw => h ((mem_coreSet.mp hv).symm.trans (mem_coreSet.mp hw))

theorem cores_cover : (Finset.univ : Finset (Fin 2)).biUnion (fun c => coreSet c.val) = Finset.univ := by
  ext x
  simp only [Finset.mem_biUnion, Finset.mem_univ, true_and, iff_true]
  exact ⟨⟨owner (x 0).val % 2, Nat.mod_lt _ (by decide)⟩, mem_coreSet.mpr rfl⟩

theorem tasks_cover (c : Fin 2) : (Finset.univ : Finset (Fin 16)).biUnion (fun s => taskSet (2 * s.val + c.val)) = coreSet c.val := by
  ext x
  simp only [Finset.mem_biUnion, Finset.mem_univ, true_and, mem_taskSet, mem_coreSet]
  have h := owner_lt x
  have hc := c.isLt
  constructor
  · rintro ⟨s, hs⟩; omega
  · intro hx; exact ⟨⟨owner (x 0).val / 2, by omega⟩, by show _ = 2 * (owner (x 0).val / 2) + c.val; omega⟩

end Cert.Proof.KernelIdeal

end
-- ==== Proof.KernelIdeal.Tile.lean ====
/-
  One task of the SparseCore call, at a symbolic pair of SparseCore and vector subcore.
-/
module

public import proofs.«01_k».proof.Proof.KernelIdeal.Base

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The task's memrefs -/

abbrev bankV : Memref sig .scVector .hbm S1152 .f32 := Memref.whole main_v2_scv
abbrev bucketV : Memref sig .scVector .hbm S294912 .i32 := Memref.whole main_v3_scv
abbrev outV : Memref sig .scVector .hbm S2654208 .f32 := Memref.whole main_v4_scv
/-- The scratches: the image's part of the bank, the task's buckets, the task's weights. -/
abbrev sBank : Memref sig .scVector .vmem S576 .f32 := Memref.whole cc0_scratch0
abbrev sBucket : Memref sig .scVector .vmem S9216 .i32 := Memref.whole cc0_scratch1
abbrev sOut : Memref sig .scVector .vmem S82944 .f32 := Memref.whole cc0_scratch2

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

/-- The task's number. -/
abbrev wid (L : grid0.Coords) : ℕ := 2 * (L 1).val + (L 0).val

/-- The piece of the output the task's write-out `t` fills. -/
abbrev outP (t : Fin 9) : Memref sig .scVector .hbm S9216 .f32 :=
  outV.slice (Rect.unit (s := S2654208) (k0_off13 L (BitVec.ofNat 32 t.val)) S9216.size (k0_off13_inb L t)) (fun _ => rfl)

theorem bankS_pos : ∀ a, 0 < S576.size a := by decide
theorem bucketS_pos : ∀ a, 0 < S9216.size a := by decide
theorem outS_pos : ∀ a, 0 < S82944.size a := by decide

/-- The weight for tap `t` at the task's pixel `j`, read off the two scratches. -/
def tapVal (fB : S576.Idx → Elt F .f32) (fI : S9216.Idx → Elt F .i32) (t j : ℕ) : Elt F .f32 :=
  fB (flat bankS_pos (BitVec.toNat (fI (flat bucketS_pos j)) + 64 * t))

/-- The weights scratch once `k` trips of the loop are through and, in the next, the first `n` taps. -/
def Done (fB : S576.Idx → Elt F .f32) (fI : S9216.Idx → Elt F .i32) (k n : ℕ) (f : S82944.Idx → Elt F .f32) : Prop :=
  ∀ x : S82944.Idx, ((x 0).val % 9216 < 16 * k ∨ ((x 0).val / 9216 < n ∧ (x 0).val % 9216 < 16 * (k + 1))) →
    f x = tapVal fB fI ((x 0).val / 9216) ((x 0).val % 9216)

/-- What one trip of the loop needs and leaves. -/
def inv (fB : S576.Idx → Elt F .f32) (fI : S9216.Idx → Elt F .i32) (k : ℕ) (_ : PUnit) : sProp 𝕄 :=
  iprop(((sBank).view.loc (V d (cV L) (jV L)) ↦{fullShare} fB)
    ∗ ((sBucket).view.loc (V d (cV L) (jV L)) ↦{fullShare} fI)
    ∗ (∃ f, ⌜Done fB fI k 0 f⌝ ∗ (sOut).view.loc (V d (cV L) (jV L)) ↦{fullShare} f))

/-- The sixteen buckets a trip loads. -/
abbrev loaded (fI : S9216.Idx → Elt F .i32) (k : Fin k0_t1_loop.trips) : IVec S16 32 :=
  (sBucket).view.readAt (Elt F) (Rect.unit (s := S9216) (k0_off3 k) S16.size (k0_off3_inb k)).toLoadRect fI

/-- A loaded bucket is the bucket of its pixel. -/
theorem loaded_apply (fI : S9216.Idx → Elt F .i32) (k : Fin k0_t1_loop.trips) (y : S16.Idx) :
    loaded fI k y = fI (flat bucketS_pos (16 * k.val + (y 0).val)) := by
  have hk : k.val < 576 := k.isLt
  have hy : (y 0).val < 16 := (y 0).isLt
  simp only [View.readAt_apply, Memref.view_whole, View.read_whole]
  congr 1
  funext a; apply Fin.ext
  obtain rfl : a = 0 := Subsingleton.elim _ _
  rw [LoadRect.idx_apply]
  show k0_off3 k 0 + 1 * (y 0).val = (16 * k.val + (y 0).val) % 9216
  rw [k0_off3_eq]
  show 16 * k.val + 1 * (y 0).val = _
  omega

/-- A trip's indices for tap `n`: a bucket (below 64) and 64 times the tap. -/
theorem tapIdx_toNat (fI : S9216.Idx → Elt F .i32) (hI : ∀ x, BitVec.toNat (fI x) < 64) (k : Fin k0_t1_loop.trips) {n : ℕ} (hn : n < 9)
    {c : BitVec 32} (hc : c = BitVec.ofNat 32 (64 * n)) (y : S16.Idx) :
    (addi (loaded fI k) (broadcast S16 c) y).toNat = BitVec.toNat (fI (flat bucketS_pos (16 * k.val + (y 0).val))) + 64 * n := by
  subst hc
  show (IntOp.addi (loaded fI k y) (BitVec.ofNat 32 (64 * n))).toNat = _
  rw [loaded_apply]
  have := hI (flat bucketS_pos (16 * k.val + (y 0).val))
  simp only [IntOp.addi, BitVec.toNat_add, BitVec.toNat_ofNat]
  omega

theorem tapIdx_ok (fI : S9216.Idx → Elt F .i32) (hI : ∀ x, BitVec.toNat (fI x) < 64) (k : Fin k0_t1_loop.trips) {n : ℕ} (hn : n < 9)
    {c : BitVec 32} (hc : c = BitVec.ofNat 32 (64 * n)) :
    ∀ a x, ((![addi (loaded fI k) (broadcast S16 c)] : Fin 1 → IVec S16 32) a x).toNat < S576.size a := by
  intro a x
  obtain rfl : a = 0 := Subsingleton.elim _ _
  show (addi (loaded fI k) (broadcast S16 c) x).toNat < 576
  rw [tapIdx_toNat fI hI k hn hc]
  have := hI (flat bucketS_pos (16 * k.val + (x 0).val))
  omega

/-- What one tap's store adds. -/
theorem Done.step {fB : S576.Idx → Elt F .f32} {fI : S9216.Idx → Elt F .i32} (hI : ∀ x, BitVec.toNat (fI x) < 64) {k : Fin k0_t1_loop.trips}
    {n : ℕ} {f : S82944.Idx → Elt F .f32} {l : List (View.Piece (Elt F) S82944 .f32)}
    (h : Done fB fI k n ((sOut).view.writes (Elt F) f l)) (hn : n < 9) {c : BitVec 32} (hc : c = BitVec.ofNat 32 (64 * n))
    {off : Fin 1 → ℕ} (hoff : off 0 = 16 * k.val + 9216 * n) (inb : ∀ a, off a + S16.size a ≤ S82944.size a)
    (hx : ∀ a x, ((![addi (loaded fI k) (broadcast S16 c)] : Fin 1 → IVec S16 32) a x).toNat < S576.size a) :
    Done fB fI k (n + 1) ((sOut).view.writes (Elt F) f
      (⟨Rect.unit (s := S82944) off S16.size inb,
        loadIdx ((sBank).view.readAt (Elt F) (LoadRect.whole S576) fB) ![addi (loaded fI k) (broadcast S16 c)] hx⟩ :: l)) := by
  intro x hd
  have hk : k.val < 576 := k.isLt
  have hx0 : (x 0).val < 82944 := (x 0).isLt
  have e : ∀ g : S82944.Idx → Elt F .f32, g x = (sOut).view.read (Elt F) g x := fun g => by
    simp only [Memref.view_whole, View.read_whole]
  refine (e _).trans ?_
  by_cases hm : 16 * k.val + 9216 * n ≤ (x 0).val ∧ (x 0).val < 16 * k.val + 9216 * n + 16
  · -- the word the store writes
    let y : S16.Idx := fun a => ⟨(x 0).val - (16 * k.val + 9216 * n), by obtain rfl : a = 0 := Subsingleton.elim _ _; show _ < 16; omega⟩
    refine (View.read_writes_cons_hit_of_coords (sOut).view f _ _ l y x fun a => ?_).trans ?_
    · obtain rfl : a = 0 := Subsingleton.elim _ _
      show (x 0).val = off 0 + 1 * ((x 0).val - (16 * k.val + 9216 * n))
      omega
    · simp only [loadIdx, View.readAt_apply, Memref.view_whole, View.read_whole, tapVal]
      congr 1
      funext a; apply Fin.ext
      obtain rfl : a = 0 := Subsingleton.elim _ _
      rw [LoadRect.idx_apply]
      show 0 + 1 * (addi (loaded fI k) (broadcast S16 c) y).toNat = _ % 576
      have hy : 16 * k.val + (y 0).val = (x 0).val % 9216 := by
        show 16 * k.val + ((x 0).val - (16 * k.val + 9216 * n)) = _
        omega
      rw [tapIdx_toNat fI hI k hn hc, hy, show (x 0).val / 9216 = n by omega]
      have := hI (flat bucketS_pos ((x 0).val % 9216))
      omega
  · -- a word it leaves
    rw [View.read_writes_cons_miss_of_axis (sOut).view f _ l x 0 (16 * k.val + 9216 * n) 16 hoff rfl rfl (by omega), ← e ((sOut).view.writes (Elt F) f l)]
    exact h x (by omega)

theorem trip (fB : S576.Idx → Elt F .f32) (fI : S9216.Idx → Elt F .i32) (hI : ∀ x, BitVec.toNat (fI x) < 64)
    (v18 v29 : BitVec 32) (k : Fin k0_t1_loop.trips) :
    inv d L fB fI k ⟨⟩
      ⊢ wp frame (wpE (defs₀ (F := F)) 𝒱₀ (V d (cV L) (jV L)) none) Set.univ
          (k0_t1_body L bankV (Memref.isWhole_whole _) bucketV (Memref.isWhole_whole _) outV (Memref.isWhole_whole _)
            sBank (Memref.isWhole_whole _) sBucket (Memref.isWhole_whole _) sOut (Memref.isWhole_whole _)
            cc0_scoped0 cc0_scoped1 cc0_scoped2 cc0_scoped3 cc0_scoped4 cc0_scoped5 cc0_scoped6 cc0_scoped7 cc0_scoped8 cc0_scoped9 cc0_scoped10
            v18 v29 k ⟨⟩)
          fun y => inv d L fB fI (k + 1) y := by
  have chk1 : k0_chk1 (addi (loaded fI k) (broadcast S16 0#32)) := tapIdx_ok fI hI k (n := 0) (by decide) rfl
  have chk2 : k0_chk2 (addi (loaded fI k) (broadcast S16 64#32)) := tapIdx_ok fI hI k (n := 1) (by decide) rfl
  have chk3 : k0_chk3 (addi (loaded fI k) (broadcast S16 128#32)) := tapIdx_ok fI hI k (n := 2) (by decide) rfl
  have chk4 : k0_chk4 (addi (loaded fI k) (broadcast S16 192#32)) := tapIdx_ok fI hI k (n := 3) (by decide) rfl
  have chk5 : k0_chk5 (addi (loaded fI k) (broadcast S16 256#32)) := tapIdx_ok fI hI k (n := 4) (by decide) rfl
  have chk6 : k0_chk6 (addi (loaded fI k) (broadcast S16 320#32)) := tapIdx_ok fI hI k (n := 5) (by decide) rfl
  have chk7 : k0_chk7 (addi (loaded fI k) (broadcast S16 384#32)) := tapIdx_ok fI hI k (n := 6) (by decide) rfl
  have chk8 : k0_chk8 (addi (loaded fI k) (broadcast S16 448#32)) := tapIdx_ok fI hI k (n := 7) (by decide) rfl
  have chk9 : k0_chk9 (addi (loaded fI k) (broadcast S16 512#32)) := tapIdx_ok fI hI k (n := 8) (by decide) rfl
  unfold inv
  iintro ⟨Hb0, Hb1, %f2, %hf2, Hb2⟩
  sl_unfold [k0_t1_body, k0_part1, SparseCore.vectorLoadIdx]
  sl_exec
  sl_step
  isplitl [Hb0]; · iexact Hb0
  isplitl [Hb1]; · iexact Hb1
  iexists _
  isplitr
  rotate_left
  · iexact Hb2
  ipureintro
  have h0 : Done fB fI k 0 ((sOut).view.writes (Elt F) f2 []) := hf2
  have h1 := h0.step hI (by decide) (c := 0#32) rfl (by rw [k0_off4_eq]; rfl) (k0_off4_inb k) chk1
  have h2 := h1.step hI (by decide) (c := 64#32) rfl (by rw [k0_off5_eq]; rfl) (k0_off5_inb k) chk2
  have h3 := h2.step hI (by decide) (c := 128#32) rfl (by rw [k0_off6_eq]; rfl) (k0_off6_inb k) chk3
  have h4 := h3.step hI (by decide) (c := 192#32) rfl (by rw [k0_off7_eq]; rfl) (k0_off7_inb k) chk4
  have h5 := h4.step hI (by decide) (c := 256#32) rfl (by rw [k0_off8_eq]; rfl) (k0_off8_inb k) chk5
  have h6 := h5.step hI (by decide) (c := 320#32) rfl (by rw [k0_off9_eq]; rfl) (k0_off9_inb k) chk6
  have h7 := h6.step hI (by decide) (c := 384#32) rfl (by rw [k0_off10_eq]; rfl) (k0_off10_inb k) chk7
  have h8 := h7.step hI (by decide) (c := 448#32) rfl (by rw [k0_off11_eq]; rfl) (k0_off11_inb k) chk8
  have h9 := h8.step hI (by decide) (c := 512#32) rfl (by rw [k0_off12_eq]; rfl) (k0_off12_inb k) chk9
  exact fun x hx => h9 x (by have : (x 0).val < 82944 := (x 0).isLt; omega)

/-- The semaphore each transfer of the task waits on, at zero. -/
def sems (d : Dev nD) (L : grid0.Coords) : sProp 𝕄 :=
  iprop(semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0
    ∗ semVal (V d (cV L) (jV L), SemLoc.dma cc0_scoped4.sem) 0 ∗ semVal (V d (cV L) (jV L), SemLoc.dma cc0_scoped5.sem) 0
    ∗ semVal (V d (cV L) (jV L), SemLoc.dma cc0_scoped6.sem) 0 ∗ semVal (V d (cV L) (jV L), SemLoc.dma cc0_scoped7.sem) 0
    ∗ semVal (V d (cV L) (jV L), SemLoc.dma cc0_scoped8.sem) 0 ∗ semVal (V d (cV L) (jV L), SemLoc.dma cc0_scoped9.sem) 0
    ∗ semVal (V d (cV L) (jV L), SemLoc.dma cc0_scoped10.sem) 0)

/-- The nine pieces of the output the task writes, at `f`. -/
def pieces (d : Dev nD) (L : grid0.Coords) (f : S2654208.Idx → Elt F .f32) : sProp 𝕄 :=
  iprop(((outP L 0).view.loc (V d (cV L) (jV L)) ↦[(outP L 0).view.set]{fullShare} f)
    ∗ ((outP L 1).view.loc (V d (cV L) (jV L)) ↦[(outP L 1).view.set]{fullShare} f)
    ∗ ((outP L 2).view.loc (V d (cV L) (jV L)) ↦[(outP L 2).view.set]{fullShare} f)
    ∗ ((outP L 3).view.loc (V d (cV L) (jV L)) ↦[(outP L 3).view.set]{fullShare} f)
    ∗ ((outP L 4).view.loc (V d (cV L) (jV L)) ↦[(outP L 4).view.set]{fullShare} f)
    ∗ ((outP L 5).view.loc (V d (cV L) (jV L)) ↦[(outP L 5).view.set]{fullShare} f)
    ∗ ((outP L 6).view.loc (V d (cV L) (jV L)) ↦[(outP L 6).view.set]{fullShare} f)
    ∗ ((outP L 7).view.loc (V d (cV L) (jV L)) ↦[(outP L 7).view.set]{fullShare} f)
    ∗ (outP L 8).view.loc (V d (cV L) (jV L)) ↦[(outP L 8).view.set]{fullShare} f)

theorem bound0 : grid0.bound 0 = 2 := rfl
theorem bound1 : grid0.bound 1 = 16 := rfl

theorem off1_eq : ∀ i : grid0.Coords, k0_off1 i 0 = wid i / 16 * 576 := by decide +kernel
theorem off2_eq : ∀ i : grid0.Coords, k0_off2 i 0 = wid i * 9216 := by decide +kernel
theorem off13_eq : ∀ (i : grid0.Coords) (t : Fin 9),
    k0_off13 i (BitVec.ofNat 32 t.val) 0 = (wid i / 16 * 9 + t.val) * 147456 + wid i % 16 * 9216 := by decide +kernel

theorem mem_outP (t : Fin 9) (x : S2654208.Idx) :
    x ∈ (outP L t).view.set ↔ (wid L / 16 * 9 + t.val) * 147456 + wid L % 16 * 9216 ≤ (x 0).val
      ∧ (x 0).val < (wid L / 16 * 9 + t.val) * 147456 + wid L % 16 * 9216 + 9216 := by
  have hs : (outP L t).view.set = (Rect.unit (s := S2654208) (k0_off13 L (BitVec.ofNat 32 t.val)) S9216.size (k0_off13_inb L t)).set :=
    View.set_slice_whole main_v4_scv _
  rw [hs, Rect.mem_set_unit, ← off13_eq]
  constructor
  · intro h; exact h 0
  · intro h a
    obtain rfl : a = 0 := Subsingleton.elim _ _
    exact h

theorem outP_disjoint {t u : Fin 9} (h : t ≠ u) : Disjoint (outP L t).view.set (outP L u).view.set :=
  Finset.disjoint_left.mpr fun x ht hu => h (Fin.ext (by
    have h1 := (mem_outP L t x).mp ht
    have h2 := (mem_outP L u x).mp hu
    omega))

theorem outP_cover : (Finset.univ : Finset (Fin 9)).biUnion (fun t => (outP L t).view.set) = taskSet (wid L) := by
  ext x
  have h0 : (L 0).val < 2 := (L 0).isLt
  have h1 : (L 1).val < 16 := (L 1).isLt
  have hx : (x 0).val < 2654208 := (x 0).isLt
  simp only [Finset.mem_biUnion, Finset.mem_univ, true_and, mem_taskSet, owner]
  constructor
  · rintro ⟨t, ht⟩
    have := (mem_outP L t x).mp ht
    have := t.isLt
    omega
  · intro h
    refine ⟨⟨(x 0).val / 147456 % 9, Nat.mod_lt _ (by decide)⟩, (mem_outP L _ x).mpr ?_⟩
    show (wid L / 16 * 9 + (x 0).val / 147456 % 9) * 147456 + wid L % 16 * 9216 ≤ _ ∧ _ < (wid L / 16 * 9 + (x 0).val / 147456 % 9) * 147456 + wid L % 16 * 9216 + 9216
    omega

/-- The nine pieces are the task's words. -/
theorem pieces_eq (f : S2654208.Idx → Elt F .f32) :
    (pieces d L f : sProp 𝕄) = outLoc d ↦[taskSet (wid L)]{fullShare} f := by
  rw [← outP_cover L]
  refine Eq.trans ?_ (pointsTo_biUnion (ℓ := outLoc d) Finset.univ (fun t : Fin 9 => (outP L t).view.set) fun t _ u _ h => outP_disjoint L h).symm
  rw [bigSep_univ_eq_bigSepL [0, 1, 2, 3, 4, 5, 6, 7, 8] (by decide) (by decide)]
  rfl

/-- What a write-out carries. -/
theorem piece_read (fo : S82944.Idx → Elt F .f32) (t : Fin 9) {off : Fin 1 → ℕ} (hoff : off 0 = t.val * 9216)
    (inb : ∀ a, off a + S9216.size a ≤ S82944.size a) (y : S9216.Idx) :
    (sOut.slice (Rect.unit (s := S82944) off S9216.size inb) (fun _ => rfl)).view.read (Elt F) fo y = fo (flat outS_pos (t.val * 9216 + (y 0).val)) := by
  have ht := t.isLt
  have hy : (y 0).val < 9216 := (y 0).isLt
  refine congrArg fo ?_
  funext a; apply Fin.ext
  obtain rfl : a = (0 : Fin 1) := Subsingleton.elim (α := Fin 1) _ _
  show off 0 + 1 * (y 0).val = (t.val * 9216 + (y 0).val) % 82944
  omega

/-- What a write-out leaves in its piece. -/
theorem piece_value {bank : S1152.Idx → Elt F .f32} {bucket : S294912.Idx → Elt F .i32} {fB : S576.Idx → Elt F .f32} {fI : S9216.Idx → Elt F .i32}
    (hpre : ∀ x, BitVec.toNat (bucket x) < 64)
    (hB : ∀ x, fB x = bank (flat bank_pos (wid L / 16 * 576 + (x 0).val))) (hI : ∀ x, fI x = bucket (flat bucket_pos (wid L * 9216 + (x 0).val)))
    {fo : S82944.Idx → Elt F .f32} (hD : Done fB fI 576 0 fo) (t : Fin 9) {p : S9216.Idx → Elt F .f32}
    (hp : ∀ y : S9216.Idx, p y = fo (flat outS_pos (t.val * 9216 + (y 0).val))) (f : S2654208.Idx → Elt F .f32) :
    ∀ x ∈ (outP L t).view.set, (outP L t).view.writes (Elt F) f [⟨Rect.whole S9216, p⟩] x = weights bank bucket x := by
  intro x hx
  have h0 : (L 0).val < 2 := (L 0).isLt
  have h1 : (L 1).val < 16 := (L 1).isLt
  have ht := t.isLt
  have hb := (mem_outP L t x).mp hx
  obtain ⟨y, -, rfl⟩ := Finset.mem_map.mp hx
  have hy : (y 0).val < 9216 := (y 0).isLt
  have hn : (((outP L t).view.emb y) 0).val = (wid L / 16 * 9 + t.val) * 147456 + wid L % 16 * 9216 + (y 0).val := by
    show k0_off13 L (BitVec.ofNat 32 t.val) 0 + 1 * (y 0).val = _
    rw [off13_eq]; omega
  have e : ∀ g : S2654208.Idx → Elt F .f32, g ((outP L t).view.emb y) = (outP L t).view.read (Elt F) g y := fun _ => rfl
  refine (e _).trans ?_
  refine (View.read_writes_cons_hit_of_coords (outP L t).view f (Rect.whole S9216) p [] y y fun a => ?_).trans ?_
  · show (y a).val = 0 + 1 * (y a).val
    omega
  · have hz : (flat outS_pos (t.val * 9216 + (y 0).val) 0).val = t.val * 9216 + (y 0).val := Nat.mod_eq_of_lt (show _ < 82944 by omega)
    rw [hp y, hD _ (Or.inl (by omega))]
    simp only [weights, weightAt, tapVal]
    rw [hn, hB, hI, hz, show (t.val * 9216 + (y 0).val) % 9216 = (y 0).val by omega, show (t.val * 9216 + (y 0).val) / 9216 = t.val by omega]
    have e1 : (flat bucketS_pos (y 0).val 0).val = (y 0).val := Nat.mod_eq_of_lt hy
    rw [e1, show ((wid L / 16 * 9 + t.val) * 147456 + wid L % 16 * 9216 + (y 0).val) / 1327104 * 147456
      + ((wid L / 16 * 9 + t.val) * 147456 + wid L % 16 * 9216 + (y 0).val) % 147456 = wid L * 9216 + (y 0).val by omega]
    have hw := hpre (flat bucket_pos (wid L * 9216 + (y 0).val))
    generalize BitVec.toNat (bucket (flat bucket_pos (wid L * 9216 + (y 0).val))) = u at hw ⊢
    have e2 : (flat bankS_pos (u + 64 * t.val) 0).val = u + 64 * t.val := Nat.mod_eq_of_lt (show _ < 576 by omega)
    rw [e2]
    congr 2
    omega

theorem tile_run (q : PosShare TreeShare) (bank : S1152.Idx → Elt F .f32) (bucket : S294912.Idx → Elt F .i32) (f : S2654208.Idx → Elt F .f32)
    (hpre : ∀ x, BitVec.toNat (bucket x) < 64)
    (O : CellTallies nD τ sig (HIx 1)) (W : Waits sig (HIx 1)) :
    (iprop(Transfers.MayWaits (V d (cV L) (jV L)) (none : HIx 1) O
        ∗ ((bankV).view.loc (V d (cV L) (jV L)) ↦{q} bank) ∗ ((bucketV).view.loc (V d (cV L) (jV L)) ↦{q} bucket)
        ∗ pieces d L f
        ∗ (∃ f0, (sBank).view.loc (V d (cV L) (jV L)) ↦{fullShare} f0)
        ∗ (∃ f1, (sBucket).view.loc (V d (cV L) (jV L)) ↦{fullShare} f1)
        ∗ (∃ f2, (sOut).view.loc (V d (cV L) (jV L)) ↦{fullShare} f2)
        ∗ sems d L
        ∗ owes (V d (cV L) (jV L)) O W) : sProp 𝕄)
      ⊢ wp frame (wpE (defs₀ (F := F)) 𝒱₀ (V d (cV L) (jV L)) none) Set.univ
          (cc0__sc_wm_body L bankV (Memref.isWhole_whole _) bucketV (Memref.isWhole_whole _) outV (Memref.isWhole_whole _)
            sBank (Memref.isWhole_whole _) sBucket (Memref.isWhole_whole _) sOut (Memref.isWhole_whole _)
            cc0_scoped0 cc0_scoped1 cc0_scoped2 cc0_scoped3 cc0_scoped4 cc0_scoped5 cc0_scoped6 cc0_scoped7 cc0_scoped8 cc0_scoped9 cc0_scoped10)
          fun _ => iprop(((bankV).view.loc (V d (cV L) (jV L)) ↦{q} bank) ∗ ((bucketV).view.loc (V d (cV L) (jV L)) ↦{q} bucket)
            ∗ pieces d L (weights bank bucket)
            ∗ (∃ f0, (sBank).view.loc (V d (cV L) (jV L)) ↦{fullShare} f0)
            ∗ (∃ f1, (sBucket).view.loc (V d (cV L) (jV L)) ↦{fullShare} f1)
            ∗ (∃ f2, (sOut).view.loc (V d (cV L) (jV L)) ↦{fullShare} f2)
            ∗ sems d L
            ∗ ∃ W', ⌜∀ p ∈ W', p ∈ W ∨ p.2 = none ∨ p.2 = some (0 : Fin 1)⌝ ∗ owes (V d (cV L) (jV L)) O W') := by
  unfold pieces sems
  iintro ⟨Hmw, Hbank, Hbucket, ⟨Ho0, Ho1, Ho2, Ho3, Ho4, Ho5, Ho6, Ho7, Ho8⟩, ⟨%f0, Hb0⟩, ⟨%f1, Hb1⟩, ⟨%f2, Hb2⟩,
    ⟨Hs0, Hs1, Hs2, Hs3, Hs4, Hs5, Hs6, Hs7, Hs8, Hs9, Hs10⟩, HO⟩
  sl_unfold [cc0__sc_wm_body]
  sl_exec
  have hI : ∀ x, View.write (Elt F) (sBucket).view f1 (tile_run.sl.dma0_1 L bucket) Finset.univ x = bucket (flat bucket_pos (wid L * 9216 + (x 0).val)) := by
    intro x
    have hx : (x 0).val < 9216 := (x 0).isLt
    have h0 : (L 0).val < 2 := (L 0).isLt
    have h1 : (L 1).val < 16 := (L 1).isLt
    have hw : wid L = 2 * (L 1).val + (L 0).val := rfl
    rw [show (View.write (Elt F) _ _ _ Finset.univ : _) = _ from View.write_whole_univ _ _ _]
    refine congrArg bucket ?_
    funext a; apply Fin.ext
    obtain rfl : a = (0 : Fin 1) := Subsingleton.elim (α := Fin 1) _ _
    show k0_off2 L 0 + 1 * (x 0).val = (wid L * 9216 + (x 0).val) % 294912
    rw [off2_eq]; omega
  have hB : ∀ x, View.write (Elt F) (sBank).view f0 (tile_run.sl.dma0 L bank) Finset.univ x = bank (flat bank_pos (wid L / 16 * 576 + (x 0).val)) := by
    intro x
    have hx : (x 0).val < 576 := (x 0).isLt
    have h0 : (L 0).val < 2 := (L 0).isLt
    have h1 : (L 1).val < 16 := (L 1).isLt
    have hw : wid L = 2 * (L 1).val + (L 0).val := rfl
    rw [show (View.write (Elt F) _ _ _ Finset.univ : _) = _ from View.write_whole_univ _ _ _]
    refine congrArg bank ?_
    funext a; apply Fin.ext
    obtain rfl : a = (0 : Fin 1) := Subsingleton.elim (α := Fin 1) _ _
    show k0_off1 L 0 + 1 * (x 0).val = (wid L / 16 * 576 + (x 0).val) % 1152
    rw [off1_eq]; omega
  sl_for (inv d L (View.write (Elt F) (sBank).view f0 (tile_run.sl.dma0 L bank) Finset.univ)
    (View.write (Elt F) (sBucket).view f1 (tile_run.sl.dma0_1 L bucket) Finset.univ)) $$ [Hb0 Hb1 Hb2]
  case region =>
    intro k _
    exact trip d L _ _ (fun x => by rw [hI]; exact hpre _) (tile_run.sl.v18 L) (tile_run.sl.v29 L) k
  · unfold inv
    isplitl [Hb0]; · iexact Hb0
    isplitl [Hb1]; · iexact Hb1
    iexists f2; isplitr
    · ipureintro; intro x hx; omega
    · iexact Hb2
  iintro %_ HI
  unfold inv
  icases HI with ⟨Hb0, Hb1, %fo, %hD, Hb2⟩
  sl_exec
  sl_step
  have e0 := piece_value L hpre hB hI hD 0 (p := tile_run.sl.dma0_2 fo) (piece_read fo _ rfl _) f
  have e1 := piece_value L hpre hB hI hD 1 (p := tile_run.sl.dma0_3 fo) (piece_read fo _ rfl _) f
  have e2 := piece_value L hpre hB hI hD 2 (p := tile_run.sl.dma0_4 fo) (piece_read fo _ rfl _) f
  have e3 := piece_value L hpre hB hI hD 3 (p := tile_run.sl.dma0_5 fo) (piece_read fo _ rfl _) f
  have e4 := piece_value L hpre hB hI hD 4 (p := tile_run.sl.dma0_6 fo) (piece_read fo _ rfl _) f
  have e5 := piece_value L hpre hB hI hD 5 (p := tile_run.sl.dma0_7 fo) (piece_read fo _ rfl _) f
  have e6 := piece_value L hpre hB hI hD 6 (p := tile_run.sl.dma0_8 fo) (piece_read fo _ rfl _) f
  have e7 := piece_value L hpre hB hI hD 7 (p := tile_run.sl.dma0_9 fo) (piece_read fo _ rfl _) f
  have e8 := piece_value L hpre hB hI hD 8 (p := tile_run.sl.dma0_10 fo) (piece_read fo _ rfl _) f
  ihave Ho0 := (show _ ⊢ _ from le_of_eq (pointsTo_congr e0)) $$ Ho0
  ihave Ho1 := (show _ ⊢ _ from le_of_eq (pointsTo_congr e1)) $$ Ho1
  ihave Ho2 := (show _ ⊢ _ from le_of_eq (pointsTo_congr e2)) $$ Ho2
  ihave Ho3 := (show _ ⊢ _ from le_of_eq (pointsTo_congr e3)) $$ Ho3
  ihave Ho4 := (show _ ⊢ _ from le_of_eq (pointsTo_congr e4)) $$ Ho4
  ihave Ho5 := (show _ ⊢ _ from le_of_eq (pointsTo_congr e5)) $$ Ho5
  ihave Ho6 := (show _ ⊢ _ from le_of_eq (pointsTo_congr e6)) $$ Ho6
  ihave Ho7 := (show _ ⊢ _ from le_of_eq (pointsTo_congr e7)) $$ Ho7
  ihave Ho8 := (show _ ⊢ _ from le_of_eq (pointsTo_congr e8)) $$ Ho8
  isplitl [Hbank]; · iexact Hbank
  isplitl [Hbucket]; · iexact Hbucket
  isplitl [Ho0 Ho1 Ho2 Ho3 Ho4 Ho5 Ho6 Ho7 Ho8]; · iframe
  isplitl [Hb0]; · iexists _; iexact Hb0
  isplitl [Hb1]; · iexists _; iexact Hb1
  isplitl [Hb2]; · iexists _; iexact Hb2
  isplitl [Hs0 Hs1 Hs2 Hs3 Hs4 Hs5 Hs6 Hs7 Hs8 Hs9 Hs10]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hs10
  iexists _; isplitr
  rotate_left
  · iexact HO
  · ipureintro
    intro p hp
    simp only [Finset.mem_insert] at hp
    rcases p.2 with _ | q
    · exact .inr (.inl rfl)
    · exact .inr (.inr (congrArg some (Subsingleton.elim q 0)))

end Cert.Proof.KernelIdeal

end
-- ==== Proof.KernelIdeal.Launch.lean ====
/-
  The SparseCore call: what its handshakes carry, each task as the launch theorem asks for it, and how a SparseCore deals its
  part to its tasks.
-/
module

public import proofs.«01_k».proof.Proof.KernelIdeal.Tile

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The task's memrefs -/

/-! ## What the handshakes carry -/

/-- SparseCore `c`'s share of an array all tasks read, -/
abbrev coreShare (c : ℕ) : PosShare TreeShare := Transfers.shareTokN fullShare c
/-- and that of its task on subcore `s`. -/
abbrev taskShare (c s : ℕ) : PosShare TreeShare := Transfers.shareTokN (coreShare c) s

variable (bank : Dev nD → S1152.Idx → Elt F .f32) (bucket : Dev nD → S294912.Idx → Elt F .i32) (out : Dev nD → S2654208.Idx → Elt F .f32)

/-- The output the call leaves. -/
abbrev result (d : Dev nD) : S2654208.Idx → Elt F .f32 := weights (bank d) (bucket d)

/-- What SparseCore `c` is given and gives back, the output's words at `f`. -/
abbrev corePart (d : Dev nD) (c : ℕ) (f : S2654208.Idx → Elt F .f32) : sProp 𝕄 :=
  iprop((bankLoc d ↦{coreShare c} bank d) ∗ (bucketLoc d ↦{coreShare c} bucket d) ∗ outLoc d ↦[coreSet c]{fullShare} f)
/-- What task `(c, s)` is given and gives back. -/
abbrev taskPart (d : Dev nD) (c s : ℕ) (f : S2654208.Idx → Elt F .f32) : sProp 𝕄 :=
  iprop((bankLoc d ↦{taskShare c s} bank d) ∗ (bucketLoc d ↦{taskShare c s} bucket d) ∗ outLoc d ↦[taskSet (2 * s + c)]{fullShare} f)

def P : (K (F := F)).Pay (nD := nD) (Val := Elt F) (Name := ℕ) (U := UU) where
  st := fun q d c => match q with | 0 => corePart bank bucket d c.val (out d)
  dn := fun q d c => match q with | 0 => corePart bank bucket d c.val (result bank bucket d)
  go := fun q d c i => match q with | 0 => taskPart bank bucket d c.val i.val (out d)
  td := fun q d c i => match q with | 0 => taskPart bank bucket d c.val i.val (result bank bucket d)
  x := fun _ _ => iprop(emp)

instance P_storable : (P bank bucket out).IsStorable where
  st q d c := match q with | 0 => (inferInstance : BI.Storable (upEmb : UEmb _ 𝕄) (corePart bank bucket d c.val (out d)))
  dn q d c := match q with | 0 => (inferInstance : BI.Storable (upEmb : UEmb _ 𝕄) (corePart bank bucket d c.val (result bank bucket d)))
  go q d c i := match q with | 0 => (inferInstance : BI.Storable (upEmb : UEmb _ 𝕄) (taskPart bank bucket d c.val i.val (out d)))
  td q d c i := match q with | 0 => (inferInstance : BI.Storable (upEmb : UEmb _ 𝕄) (taskPart bank bucket d c.val i.val (result bank bucket d)))

/-! ## A task's own semaphores and buffers -/

section Tile

variable (d : Dev nD) (L : grid0.Coords)

/-- The semaphore of the task's transfer `k`. -/
def taskSem : Fin 11 → DmaSem sig :=
  ![cc0_scoped0.sem, cc0_scoped1.sem, cc0_scoped2.sem, cc0_scoped3.sem, cc0_scoped4.sem, cc0_scoped5.sem, cc0_scoped6.sem, cc0_scoped7.sem,
    cc0_scoped8.sem, cc0_scoped9.sem, cc0_scoped10.sem]

theorem taskSem_inj : Function.Injective taskSem := by decide
theorem taskSem_scoped : ∀ k, (SemLoc.dma (taskSem k) : SemLoc sig).isScoped .scVector = true := by decide

abbrev taskCells : Finset (GSem nD τ sig) := Finset.univ.image fun k : Fin 11 => (V d (cV L) (jV L), SemLoc.dma (taskSem k))

omit [FloatOps F] in
theorem sems_eq : (sems d L : sProp 𝕄) = bigSep (taskCells d L) fun g => semVal g 0 := by
  rw [taskCells, SparseCore.bigSep_image_of_injOn, bigSep_univ_eq_bigSepL [0, 1, 2, 3, 4, 5, 6, 7, 8, 9, 10] (by decide) (by decide)]
  · rfl
  · intro a _ b _ e
    exact taskSem_inj (SemLoc.dma.inj (Prod.mk.inj e).2)

omit [FloatOps F] in
theorem ownSems0_V :
    (ownSems0 (V d (cV L) (jV L)) : sProp 𝕄)
      = iprop(sems d L ∗ bigSep (ownCells (V d (cV L) (jV L)) \ taskCells d L) fun g => semVal g 0) := by
  rw [sems_eq]
  refine SparseCore.bigSep_sdiff_split' fun g hg => ?_
  obtain ⟨k, -, rfl⟩ := Finset.mem_image.mp hg
  exact mem_ownCells.mpr ⟨rfl, taskSem_scoped k⟩

omit [FloatOps F] in
theorem ownBufs_V :
    ∃ R : sProp 𝕄, (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ R) := by
  have h {b : Ref sig .scVector} (e : ((Proc.scVector (cV L) (jV L)).devRef b).owner = .proc (Proc.scVector (cV L) (jV L))) :
      (Proc.scVector (cV L) (jV L)).devRef b ∈ ownRefs (τ := τ) (.scVector (cV L) (jV L)) := SparseCore.Cfg.mem_ownRefs_of_owner e
  have ne {b b' : Ref sig .scVector} (e : b ≠ b') : (Proc.scVector (cV L) (jV L)).devRef b ≠ (Proc.scVector (cV L) (jV L)).devRef b' :=
    fun h => e (Proc.devRef_injective _ h)
  refine ⟨bigSep ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2))
    fun b => iprop(∃ f, ((d, b) : Loc nD τ sig) ↦{fullShare} f), ?_⟩
  unfold SparseCore.Cfg.ownBufs
  refine (SparseCore.bigSep_erase' (h (b := cc0_scratch0) rfl)).trans ?_
  rw [SparseCore.bigSep_erase' (Finset.mem_erase.mpr ⟨ne (by decide), h (b := cc0_scratch1) rfl⟩),
    SparseCore.bigSep_erase' (Finset.mem_erase.mpr ⟨ne (by decide), Finset.mem_erase.mpr ⟨ne (by decide), h (b := cc0_scratch2) rfl⟩⟩)]

/-- The task, from what the launch theorem hands it to what it asks back. -/
theorem tile_body (hF : (K (F := F)).Facts) (hpre : ∀ d x, BitVec.toNat (bucket d x) < 64) (q : PosShare TreeShare)
    (O : CellTallies nD τ sig (HIx 1)) (W : Waits sig (HIx 1)) (hO : ∀ g, O g none = 0) :
    (iprop(levAts (K (F := F)).L (K (F := F)).lev ∗ emp
        ∗ ((bankLoc d ↦{q} bank d) ∗ (bucketLoc d ↦{q} bucket d) ∗ outLoc d ↦[taskSet (wid L)]{fullShare} out d)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_wm_body L bankV (Memref.isWhole_whole _) bucketV (Memref.isWhole_whole _) outV (Memref.isWhole_whole _)
            sBank (Memref.isWhole_whole _) sBucket (Memref.isWhole_whole _) sOut (Memref.isWhole_whole _)
            cc0_scoped0 cc0_scoped1 cc0_scoped2 cc0_scoped3 cc0_scoped4 cc0_scoped5 cc0_scoped6 cc0_scoped7 cc0_scoped8 cc0_scoped9 cc0_scoped10)
          fun _ => iprop(((bankLoc d ↦{q} bank d) ∗ (bucketLoc d ↦{q} bucket d) ∗ outLoc d ↦[taskSet (wid L)]{fullShare} result bank bucket d)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨R, hR⟩ := ownBufs_V (F := F) d L
  rw [(K (F := F)).scopedBufs_V hF d (cV L) (jV L), SparseCore.Cfg.scopedSems0_V (Val := Elt F) d (cV L) (jV L), ownSems0_V, hR,
    ← pieces_eq, ← pieces_eq]
  iintro ⟨Hlv, -, ⟨Hbank, Hbucket, Ho⟩, ⟨Hb0, Hb1, Hb2, HR⟩, ⟨Hsems, Hrest⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  iapply ((sep_mono_left (tile_run d L q (bank d) (bucket d) (out d) (hpre d) O W)).trans ((wp_frame_r _ _ _
    (R := iprop(R ∗ bigSep (ownCells (V d (cV L) (jV L)) \ taskCells d L) fun g => semVal g 0))).trans (wp_mono _ _ _ fun _ => ?_)))
    $$ [Hmw Hbank Hbucket Ho Hb0 Hb1 Hb2 Hsems HO HR Hrest]
  rotate_left
  · iframe
  iintro ⟨⟨Hbank, Hbucket, Ho, Hb0, Hb1, Hb2, Hsems, HO⟩, HR, Hrest⟩
  isplitl [Hbank Hbucket Ho]; · iframe
  isplitl [Hb0 Hb1 Hb2 HR]; · iframe
  isplitl [Hsems Hrest]; · iframe
  iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_wm_body (coordsV c s)
            bankV (Memref.isWhole_whole _) bucketV (Memref.isWhole_whole _) outV (Memref.isWhole_whole _)
            sBank (Memref.isWhole_whole _) sBucket (Memref.isWhole_whole _) sOut (Memref.isWhole_whole _)
            cc0_scoped0 cc0_scoped1 cc0_scoped2 cc0_scoped3 cc0_scoped4 cc0_scoped5 cc0_scoped6 cc0_scoped7 cc0_scoped8 cc0_scoped9 cc0_scoped10) ⟨⟩ c s := rfl

theorem tileObl (hF : (K (F := F)).Facts) (hpre : ∀ d x, BitVec.toNat (bucket d x) < 64) :
    (K (F := F)).TileObl (D (F := F)) 𝒱 (P bank bucket out) v₀ 0 := by
  intro d c i O W hO _ _
  simp only [show (P bank bucket out).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body bank bucket out d (coordsV ⟨_, hc.1⟩ ⟨_, hc.2⟩) hF hpre (taskShare c.val i.val) O W hO

/-- An array every task reads, dealt among `n` readers: their shares, and the way back. -/
theorem deal_read {ℓ : Loc nD τ sig} (q : PosShare TreeShare) (n : ℕ) (f : Buf (Elt F) ℓ) :
    (ℓ ↦{q} f : sProp 𝕄) ⊢ iprop((bigSep Finset.univ fun i : Fin n => ℓ ↦{Transfers.shareTokN q i.val} f)
      ∗ ((bigSep Finset.univ fun i : Fin n => ℓ ↦{Transfers.shareTokN q i.val} f) -∗ ℓ ↦{q} f)) := by
  iintro H
  ihave H := (Transfers.pointsTo_toks_split q n) $$ H
  icases H with ⟨Hr, Ht⟩
  isplitl [Ht]; · iexact Ht
  iintro Ht
  iapply (Transfers.pointsTo_toks_join q n)
  isplitl [Hr] <;> iassumption

theorem out_tasks (d : Dev nD) (c : Fin 2) (f : S2654208.Idx → Elt F .f32) :
    (outLoc d ↦[coreSet c.val]{fullShare} f : sProp 𝕄) = bigSep Finset.univ fun i : Fin 16 => outLoc d ↦[taskSet (2 * i.val + c.val)]{fullShare} f := by
  rw [← tasks_cover c]
  exact pointsTo_biUnion (ℓ := outLoc d) Finset.univ (fun s : Fin 16 => taskSet (2 * s.val + c.val)) fun i _ j _ h =>
    taskSet_disjoint fun e => h (Fin.ext (by omega))

theorem out_cores (d : Dev nD) (f : S2654208.Idx → Elt F .f32) :
    (outLoc d ↦{fullShare} f : sProp 𝕄) = bigSep Finset.univ fun c : Fin 2 => outLoc d ↦[coreSet c.val]{fullShare} f := by
  rw [show (outLoc d ↦{fullShare} f : sProp 𝕄) = outLoc d ↦[(Finset.univ : Finset (Fin 2)).biUnion fun c => coreSet c.val]{fullShare} f by rw [cores_cover]]
  exact pointsTo_biUnion (ℓ := outLoc d) Finset.univ (fun c : Fin 2 => coreSet c.val) fun i _ j _ h =>
    coreSet_disjoint fun e => h (Fin.ext e)

theorem vecSplit : (K (F := F)).VecSplit' (P bank bucket out) 0 := by
  intro d c
  show corePart bank bucket d c.val (out d) ⊢ |={Set.univ}=> iprop(
      (bigSep Finset.univ fun i : Fin 16 => taskPart bank bucket d c.val i.val (out d))
      ∗ ((bigSep Finset.univ fun i : Fin 16 => taskPart bank bucket d c.val i.val (result bank bucket d)) -∗ corePart bank bucket d c.val (result bank bucket d)))
  unfold corePart taskPart
  rw [bigSep_sep', bigSep_sep', bigSep_sep', bigSep_sep', out_tasks d c, out_tasks d c]
  iintro ⟨Hbank, Hbucket, Ho⟩
  ihave Hbank := (deal_read (coreShare c.val) 16 (bank d)) $$ Hbank
  ihave Hbucket := (deal_read (coreShare c.val) 16 (bucket d)) $$ Hbucket
  icases Hbank with ⟨Hbank, Wbank⟩
  icases Hbucket with ⟨Hbucket, Wbucket⟩
  imodintro
  isplitl [Hbank Hbucket Ho]; · iframe
  iintro ⟨Hbank, Hbucket, Ho⟩
  isplitl [Hbank Wbank]; · iapply Wbank; iexact Hbank
  isplitl [Hbucket Wbucket]; · iapply Wbucket; iexact Hbucket
  iexact Ho

/-- The call's two parts at launch: the three arrays whole, and the way back. -/
theorem deal_cores (d : Dev nD) :
    (iprop((bankLoc d ↦{fullShare} bank d) ∗ (bucketLoc d ↦{fullShare} bucket d) ∗ outLoc d ↦{fullShare} out d) : sProp 𝕄)
      ⊢ iprop((bigSep Finset.univ fun c : Fin ((K (F := F)).nCore 0) => (P bank bucket out).st 0 d c)
        ∗ ((bigSep Finset.univ fun c : Fin ((K (F := F)).nCore 0) => (P bank bucket out).dn 0 d c)
          -∗ ((bankLoc d ↦{fullShare} bank d) ∗ (bucketLoc d ↦{fullShare} bucket d) ∗ outLoc d ↦{fullShare} result bank bucket d))) := by
  show _ ⊢ iprop((bigSep Finset.univ fun c : Fin 2 => corePart bank bucket d c.val (out d))
    ∗ ((bigSep Finset.univ fun c : Fin 2 => corePart bank bucket d c.val (result bank bucket d)) -∗ _))
  unfold corePart
  rw [bigSep_sep', bigSep_sep', bigSep_sep', bigSep_sep', out_cores d, out_cores d]
  iintro ⟨Hbank, Hbucket, Ho⟩
  ihave Hbank := (deal_read fullShare 2 (bank d)) $$ Hbank
  ihave Hbucket := (deal_read fullShare 2 (bucket d)) $$ Hbucket
  icases Hbank with ⟨Hbank, Wbank⟩
  icases Hbucket with ⟨Hbucket, Wbucket⟩
  isplitl [Hbank Hbucket Ho]; · iframe
  iintro ⟨Hbank, Hbucket, Ho⟩
  isplitl [Hbank Wbank]; · iapply Wbank; iexact Hbank
  isplitl [Hbucket Wbucket]; · iapply Wbucket; iexact Hbucket
  iexact Ho

end Cert.Proof.KernelIdeal

end
-- ==== Proof.KernelIdeal.ConvValue.lean ====
/-
  What the convolution's body computes, as a function of its two input blocks.

  The body works in eight strips of 48 rows. For each strip it takes three row-shifted copies of the image block and of
  each copy three column-shifted copies, with a zero row or column where the shift leaves the image, multiplies each of
  the nine by its plane of weights, and adds the nine products in order. `strip` is that computation on whole vectors;
  `strip_at` reads it at an index; `convAt` is the resulting closed form over the block.
-/
module

public import proofs.«01_k».proof.Proof.KernelIdeal.Base
public import Idealize.ShloMosaic.Lib.Pipeline.Value
public import Idealize.ShloMosaic.Lib.Pipeline.ValueKit
public import Idealize.ShloMosaic.Lib.ValueIdxCore
public import Idealize.ShloMosaic.Lib.ValueLayout
public import Idealize.ShloMosaic.Lib.PointwiseCore

@[expose] public section

set_option maxRecDepth 16384

noncomputable section

namespace Cert.Proof.KernelIdeal

open Cert.KernelIdeal Cert.KernelIdeal.Gen
open Idealize.ShloMosaic

variable {F : FTy → Type} [FloatOps F]

/-! ## The closed form -/

/-- The float zero, as the program writes it. -/
abbrev zero32 : Elt F .f32 := Scalar.ofBits (F := F) .f32 0x00000000#32

/-- The image block with a border of zeros one pixel wide: rows and columns 0 and 385 are the border. -/
def padded (x : S4x384x384.Idx → Elt F .f32) (c : Fin 4) (h w : ℕ) : Elt F .f32 :=
  if hw : 1 ≤ h ∧ h ≤ 384 ∧ 1 ≤ w ∧ w ≤ 384 then x (ix3 c ⟨h - 1, by omega⟩ ⟨w - 1, by omega⟩) else zero32

/-- Nine terms added one after another, the first first. -/
def sum9 (t : Fin 9 → Elt F .f32) : Elt F .f32 :=
  FloatOps.addf (φ := .f32) (FloatOps.addf (φ := .f32) (FloatOps.addf (φ := .f32) (FloatOps.addf (φ := .f32) (FloatOps.addf (φ := .f32) (FloatOps.addf (φ := .f32) (FloatOps.addf (φ := .f32) (FloatOps.addf (φ := .f32)
    (t 0) (t 1)) (t 2)) (t 3)) (t 4)) (t 5)) (t 6)) (t 7)) (t 8)

/-- One output pixel: tap `k` is the bordered image at row `h + k / 3`, column `w + k % 3`, times plane `k`'s weight. -/
def convAt (wm : S1x9x384x384.Idx → Elt F .f32) (x : S4x384x384.Idx → Elt F .f32) (c : Fin 4) (h w : Fin 384) : Elt F .f32 :=
  sum9 fun k => FloatOps.mulf (φ := .f32) (padded x c (h.val + k.val / 3) (w.val + k.val % 3)) (wm (ix4 0 k h w))

/-! ## Column shifts -/

/-- The strip moved one column to the right, a zero column entering. -/
def fromLeft (s : FVec F S4x48x384 .f32) : FVec F S4x48x384 .f32 :=
  concatenate S4x48x384 2 [⟨S4x48x1, broadcast S4x48x1 (zero32 (F := F))⟩, ⟨S4x48x383, extractStridedSlice S4x48x383 ![0, 0, 0] s slices_S4x48x384_o0_0_0_S4x48x383⟩] concatenates_S4x48x1_S4x48x383_S4x48x384_d2

/-- The strip moved one column to the left, a zero column entering. -/
def fromRight (s : FVec F S4x48x384 .f32) : FVec F S4x48x384 .f32 :=
  concatenate S4x48x384 2 [⟨S4x48x383, extractStridedSlice S4x48x383 ![0, 0, 1] s slices_S4x48x384_o0_0_1_S4x48x383⟩, ⟨S4x48x1, broadcast S4x48x1 (zero32 (F := F))⟩] concatenates_S4x48x383_S4x48x1_S4x48x384_d2

/-- A row of the strip with a zero on either side. -/
def colPad (s : FVec F S4x48x384 .f32) (c : Fin 4) (r : Fin 48) (w : ℕ) : Elt F .f32 :=
  if hw : 1 ≤ w ∧ w ≤ 384 then s (ix3 c r ⟨w - 1, by omega⟩) else zero32

theorem fromLeft_at (s : FVec F S4x48x384 .f32) (c : Fin 4) (r : Fin 48) (w : Fin 384) :
    fromLeft s (ix3 c r w) = colPad s c r w.val := by
  unfold fromLeft colPad
  by_cases h : w.val = 0
  · rw [dif_neg (by omega)]
    exact concatenate_pair_apply_left (s₁ := S4x48x1) (s₂ := S4x48x383) (t := S4x48x384) 2 _ _ _ (ix3 c r w) rfl (ix3 c r ⟨0, by omega⟩)
      (fun b => match b with | 0 => rfl | 1 => rfl | 2 => h.symm)
  · rw [dif_pos (by omega)]
    refine (concatenate_pair_apply_right (s₁ := S4x48x1) (s₂ := S4x48x383) (t := S4x48x384) 2 _ _ _ (ix3 c r w) rfl rfl (ix3 c r ⟨w.val - 1, by omega⟩)
      (fun b hb => match b with | 0 => rfl | 1 => rfl | 2 => absurd rfl hb) (show w.val - 1 + 1 = w.val by omega)).trans ?_
    exact extractStridedSlice_apply _ _ _ _ _ (fun a => match a with | 0 => (Nat.zero_add _).symm | 1 => (Nat.zero_add _).symm | 2 => (Nat.zero_add _).symm)

theorem fromRight_at (s : FVec F S4x48x384 .f32) (c : Fin 4) (r : Fin 48) (w : Fin 384) :
    fromRight s (ix3 c r w) = colPad s c r (w.val + 2) := by
  unfold fromRight colPad
  by_cases h : w.val = 383
  · rw [dif_neg (by omega)]
    exact concatenate_pair_apply_right (s₁ := S4x48x383) (s₂ := S4x48x1) (t := S4x48x384) 2 _ _ _ (ix3 c r w) rfl rfl (ix3 c r ⟨0, by omega⟩)
      (fun b hb => match b with | 0 => rfl | 1 => rfl | 2 => absurd rfl hb) (show 0 + 383 = w.val by omega)
  · rw [dif_pos (by omega)]
    refine (concatenate_pair_apply_left (s₁ := S4x48x383) (s₂ := S4x48x1) (t := S4x48x384) 2 _ _ _ (ix3 c r w) rfl (ix3 c r ⟨w.val, by omega⟩)
      (fun b => match b with | 0 => rfl | 1 => rfl | 2 => rfl)).trans ?_
    exact extractStridedSlice_apply _ _ _ _ _ (fun a => match a with | 0 => (Nat.zero_add _).symm | 1 => (Nat.zero_add _).symm | 2 => (show w.val + 2 - 1 = 1 + w.val by omega))

theorem colPad_mid (s : FVec F S4x48x384 .f32) (c : Fin 4) (r : Fin 48) (w : Fin 384) :
    s (ix3 c r w) = colPad s c r (w.val + 1) := by
  unfold colPad; rw [dif_pos (by omega)]; rfl

/-! ## Row shifts -/

/-- The first 47 rows of the image block below a zero row. -/
def topRows (v : FVec F S4x384x384 .f32) : FVec F S4x48x384 .f32 :=
  concatenate S4x48x384 1 [⟨S4x1x384, broadcast S4x1x384 (zero32 (F := F))⟩, ⟨S4x47x384, extractStridedSlice S4x47x384 ![0, 0, 0] v slices_S4x384x384_o0_0_0_S4x47x384⟩] concatenates_S4x1x384_S4x47x384_S4x48x384_d1

/-- The last 47 rows of the image block above a zero row. -/
def bottomRows (v : FVec F S4x384x384 .f32) : FVec F S4x48x384 .f32 :=
  concatenate S4x48x384 1 [⟨S4x47x384, extractStridedSlice S4x47x384 ![0, 337, 0] v slices_S4x384x384_o0_337_0_S4x47x384⟩, ⟨S4x1x384, broadcast S4x1x384 (zero32 (F := F))⟩] concatenates_S4x47x384_S4x1x384_S4x48x384_d1

/-- `s` holds the 48 rows of the bordered image from row `o` on. -/
def Rows (v : FVec F S4x384x384 .f32) (o : ℕ) (s : FVec F S4x48x384 .f32) : Prop :=
  ∀ c r w, colPad s c r w = padded v c (o + r.val) w

theorem rows_top (v : FVec F S4x384x384 .f32) : Rows v 0 (topRows v) := by
  intro c r w
  unfold colPad padded
  by_cases hw : 1 ≤ w ∧ w ≤ 384
  · rw [dif_pos hw]
    unfold topRows
    by_cases h : r.val = 0
    · rw [dif_neg (by omega)]
      exact concatenate_pair_apply_left (s₁ := S4x1x384) (s₂ := S4x47x384) (t := S4x48x384) 1 _ _ _ (ix3 c r _) rfl (ix3 c ⟨0, by omega⟩ ⟨w - 1, by omega⟩)
        (fun b => match b with | 0 => rfl | 1 => h.symm | 2 => rfl)
    · rw [dif_pos (by omega)]
      refine (concatenate_pair_apply_right (s₁ := S4x1x384) (s₂ := S4x47x384) (t := S4x48x384) 1 _ _ _ (ix3 c r _) rfl rfl (ix3 c ⟨r.val - 1, by omega⟩ ⟨w - 1, by omega⟩)
        (fun b hb => match b with | 0 => rfl | 1 => absurd rfl hb | 2 => rfl) (show r.val - 1 + 1 = r.val by omega)).trans ?_
      exact extractStridedSlice_apply _ _ _ _ _ (fun a => match a with | 0 => (Nat.zero_add _).symm | 1 => (show 0 + r.val - 1 = 0 + (r.val - 1) by omega) | 2 => (Nat.zero_add _).symm)
  · rw [dif_neg hw, dif_neg (by omega)]

theorem rows_bottom (v : FVec F S4x384x384 .f32) : Rows v 338 (bottomRows v) := by
  intro c r w
  unfold colPad padded
  by_cases hw : 1 ≤ w ∧ w ≤ 384
  · rw [dif_pos hw]
    unfold bottomRows
    by_cases h : r.val = 47
    · rw [dif_neg (by omega)]
      exact concatenate_pair_apply_right (s₁ := S4x47x384) (s₂ := S4x1x384) (t := S4x48x384) 1 _ _ _ (ix3 c r _) rfl rfl (ix3 c ⟨0, by omega⟩ ⟨w - 1, by omega⟩)
        (fun b hb => match b with | 0 => rfl | 1 => absurd rfl hb | 2 => rfl) (show 0 + 47 = r.val by omega)
    · rw [dif_pos (by omega)]
      refine (concatenate_pair_apply_left (s₁ := S4x47x384) (s₂ := S4x1x384) (t := S4x48x384) 1 _ _ _ (ix3 c r _) rfl (ix3 c ⟨r.val, by omega⟩ ⟨w - 1, by omega⟩)
        (fun b => match b with | 0 => rfl | 1 => rfl | 2 => rfl)).trans ?_
      exact extractStridedSlice_apply _ _ _ _ _ (fun a => match a with | 0 => (Nat.zero_add _).symm | 1 => (show 338 + r.val - 1 = 337 + r.val by omega) | 2 => (Nat.zero_add _).symm)
  · rw [dif_neg hw, dif_neg (by omega)]

theorem rows_mid (v : FVec F S4x384x384 .f32) (o : ℕ) (ho : o + 48 ≤ 384) (h : S4x384x384.Slices ![0, o, 0] S4x48x384) :
    Rows v (o + 1) (extractStridedSlice S4x48x384 ![0, o, 0] v h) := by
  intro c r w
  unfold colPad padded
  by_cases hw : 1 ≤ w ∧ w ≤ 384
  · rw [dif_pos hw, dif_pos (by omega)]
    exact extractStridedSlice_apply _ _ _ _ _ (fun a => match a with | 0 => (Nat.zero_add _).symm | 1 => (show o + 1 + r.val - 1 = o + r.val by omega) | 2 => (Nat.zero_add _).symm)
  · rw [dif_neg hw, dif_neg (by omega)]

/-! ## One strip -/

/-- A loaded plane of weights, repeated over the four channels. -/
def plane (w : Vec F S1x1x48x384 .f32) : FVec F S4x48x384 .f32 :=
  broadcastTo S4x48x384 (shapeCast S1x48x384 (shapeCast S48x384 w shapeCasts_S1x1x48x384_S48x384) shapeCasts_S48x384_S1x48x384) broadcasts_S1x48x384_S4x48x384

theorem plane_at (w : Vec F S1x1x48x384 .f32) (c : Fin 4) (r : Fin 48) (q : Fin 384) :
    plane w (ix3 c r q) = w (ix4 0 0 r q) := by
  unfold plane
  refine (broadcastTo_apply _ _ _ (ix3 0 r q) (fun a => match a with | 0 => rfl | 1 => rfl | 2 => rfl)).trans ?_
  refine (shapeCast_apply _ _ _ (ix2 r q) ?_).trans (shapeCast_apply _ _ _ (ix4 0 0 r q) ?_)
  · rw [Shape.rowMajor_val_two, Shape.rowMajor_val_three]; simp
  · rw [Shape.rowMajor_val_two, Shape.rowMajor_val_four]; simp

/-- What the body stores for a strip: the nine products added in order, from the three row shifts and the nine loaded
    planes. -/
def strip (s0 s1 s2 : FVec F S4x48x384 .f32) (w : Fin 9 → Vec F S1x1x48x384 .f32) : FVec F S1x4x48x384 .f32 :=
  shapeCast S1x4x48x384
    (addf (addf (addf (addf (addf (addf (addf (addf (mulf (fromLeft s0) (plane (w 0))) (mulf s0 (plane (w 1)))) (mulf (fromRight s0) (plane (w 2))))
      (mulf (fromLeft s1) (plane (w 3)))) (mulf s1 (plane (w 4)))) (mulf (fromRight s1) (plane (w 5))))
      (mulf (fromLeft s2) (plane (w 6)))) (mulf s2 (plane (w 7)))) (mulf (fromRight s2) (plane (w 8))))
    shapeCasts_S4x48x384_S1x4x48x384

/-- A strip whose row shifts hold the bordered image's rows from `o`, `o + 1`, `o + 2` on and whose planes hold the weights'
    rows from `o` on is the closed form at the strip's rows. -/
theorem strip_at (wm : S1x9x384x384.Idx → Elt F .f32) (v : FVec F S4x384x384 .f32) (o : ℕ) (s0 s1 s2 : FVec F S4x48x384 .f32)
    (w : Fin 9 → Vec F S1x1x48x384 .f32) (h0 : Rows v o s0) (h1 : Rows v (o + 1) s1) (h2 : Rows v (o + 2) s2)
    (hw : ∀ (k : Fin 9) (r : Fin 48) (q : Fin 384) (h : Fin 384), h.val = o + r.val → w k (ix4 0 0 r q) = wm (ix4 0 k h q))
    (c : Fin 4) (r : Fin 48) (q : Fin 384) (h : Fin 384) (hh : h.val = o + r.val) :
    strip s0 s1 s2 w (ix4 0 c r q) = convAt wm v c h q := by
  unfold strip
  refine (shapeCast_apply _ _ _ (ix3 c r q) ?_).trans ?_
  · rw [Shape.rowMajor_val_three, Shape.rowMajor_val_four]; simp
  · simp only [addf_apply, mulf_apply, plane_at, fromLeft_at, fromRight_at]
    rw [colPad_mid s0, colPad_mid s1, colPad_mid s2]
    simp only [h0 c r, h1 c r, h2 c r, hw _ r q h hh]
    unfold convAt sum9
    rw [hh]
    have e1 : o + 1 + r.val = o + r.val + 1 := by omega
    have e2 : o + 2 + r.val = o + r.val + 2 := by omega
    rw [e1, e2]
    rfl

end Cert.Proof.KernelIdeal

end
-- ==== Proof.KernelIdeal.Conv.lean ====
/-
  The convolution's body at one grid point.
-/
module

public import proofs.«01_k».proof.Proof.KernelIdeal.ConvValue

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the body stores -/

/-- The image block without its leading axis, as the body loads it. -/
def image (X : S1x4x384x384.Idx → Elt F .f32) : FVec F S4x384x384 .f32 :=
  shapeCast S4x384x384 (View.ld X (Rect.unit ![0, 0, 0, 0] S1x4x384x384.size inb_S1x4x384x384_S1x4x384x384_0_0_0_0)) shapeCasts_S1x4x384x384_S4x384x384

theorem image_at (X : S1x4x384x384.Idx → Elt F .f32) (c : Fin 4) (h w : Fin 384) : image X (ix3 c h w) = X (ix4 0 c h w) := by
  unfold image
  refine (shapeCast_apply _ _ _ (ix4 0 c h w) ?_).trans ?_
  · rw [Shape.rowMajor_val_three, Shape.rowMajor_val_four]; simp
  · exact View.ld_unit_apply_of _ _ _ _ _ _ (fun a => match a with | 0 => rfl | 1 => (Nat.zero_add _).symm | 2 => (Nat.zero_add _).symm | 3 => (Nat.zero_add _).symm)

/-- The 48 rows of the image block from row `o` on. -/
def midRows (v : FVec F S4x384x384 .f32) (o : ℕ) (ho : o + 48 ≤ 384) : FVec F S4x48x384 .f32 :=
  extractStridedSlice S4x48x384 ![0, o, 0] v ⟨rfl, fun a => match a with | 0 => (by decide : 0 + 4 ≤ 4) | 1 => ho | 2 => (by decide : 0 + 384 ≤ 384)⟩

theorem plane_inb (o : ℕ) (ho : o + 48 ≤ 384) (k : Fin 9) (a : Fin 4) : (![0, k.val, o, 0] : Fin 4 → ℕ) a + S1x1x48x384.size a ≤ S1x9x384x384.size a :=
  match a with | 0 => (by decide : 0 + 1 ≤ 1) | 1 => k.isLt | 2 => ho | 3 => (by decide : 0 + 384 ≤ 384)

/-- The rows from `o` on of weight plane `k`, as the body loads them. -/
def planes (W : S1x9x384x384.Idx → Elt F .f32) (o : ℕ) (ho : o + 48 ≤ 384) (k : Fin 9) : Vec F S1x1x48x384 .f32 :=
  View.ld W (Rect.unit ![0, k.val, o, 0] S1x1x48x384.size (plane_inb o ho k))

theorem strip_inb (o : ℕ) (ho : o + 48 ≤ 384) (a : Fin 4) : (![0, 0, o, 0] : Fin 4 → ℕ) a + S1x4x48x384.size a ≤ S1x4x384x384.size a :=
  match a with | 0 => (by decide : 0 + 1 ≤ 1) | 1 => (by decide : 0 + 4 ≤ 4) | 2 => ho | 3 => (by decide : 0 + 384 ≤ 384)

/-- The store of the strip at row `o`. -/
def piece (W : S1x9x384x384.Idx → Elt F .f32) (o : ℕ) (ho : o + 48 ≤ 384) (s0 s1 s2 : FVec F S4x48x384 .f32) : View.Piece (Elt F) S1x4x384x384 .f32 :=
  ⟨Rect.unit ![0, 0, o, 0] S1x4x48x384.size (strip_inb o ho), strip s0 s1 s2 (planes W o ho)⟩

/-- The store of a strip that touches neither the first nor the last row of the image. -/
def midPiece (W : S1x9x384x384.Idx → Elt F .f32) (v : FVec F S4x384x384 .f32) (o : ℕ) (ho : o + 1 + 1 + 48 ≤ 384) : View.Piece (Elt F) S1x4x384x384 .f32 :=
  piece W (o + 1) (by omega) (midRows v o (by omega)) (midRows v (o + 1) (by omega)) (midRows v (o + 1 + 1) (by omega))

/-- The eight stores, the last first. -/
def stores (W : S1x9x384x384.Idx → Elt F .f32) (X : S1x4x384x384.Idx → Elt F .f32) : List (View.Piece (Elt F) S1x4x384x384 .f32) :=
  [piece W 336 (by decide) (midRows (image X) 335 (by decide)) (midRows (image X) 336 (by decide)) (bottomRows (image X)),
    midPiece W (image X) 287 (by decide), midPiece W (image X) 239 (by decide), midPiece W (image X) 191 (by decide),
    midPiece W (image X) 143 (by decide), midPiece W (image X) 95 (by decide), midPiece W (image X) 47 (by decide),
    piece W 0 (by decide) (topRows (image X)) (midRows (image X) 0 (by decide)) (midRows (image X) 1 (by decide))]

/-! ## The run -/

/-- A memref's buffer on core `d`, whole, with contents `f`. -/
abbrev pt (d : Dev nD) {sp : Space} {s : Shape} {e : EltTy} (M : Memref sig .tc sp s e) (f : Buf (Elt F) (M.view.loc (d.tc : Thread nD τ))) : sProp 𝕄 :=
  M.view.loc (d.tc : Thread nD τ) ↦{fullShare} f

/-- From the three staging buffers held whole the body runs to its return, the inputs unchanged and the output's buffer
    written with the eight stores. -/
theorem body_run (d : Dev nD) (i : grid1.Coords) (M2 : Memref sig .tc .vmem S1x9x384x384 .f32) (h2 : M2.IsWhole)
    (M3 : Memref sig .tc .vmem S1x4x384x384 .f32) (h3 : M3.IsWhole) (M4 : Memref sig .tc .vmem S1x4x384x384 .f32) (h4 : M4.IsWhole)
    (f2 : Buf (Elt F) (M2.view.loc (d.tc : Thread nD τ))) (f3 : Buf (Elt F) (M3.view.loc (d.tc : Thread nD τ))) (f4 : Buf (Elt F) (M4.view.loc (d.tc : Thread nD τ)))
    (E : Set ℕ) (Q : PUnit → sProp 𝕄) :
    iprop(pt d M2 f2 ∗ pt d M3 f3 ∗ pt d M4 f4 ∗ (iprop(pt d M2 f2 ∗ pt d M3 f3
        ∗ pt d M4 (M4.view.writes (Elt F) f4 (stores (M2.view.read (Elt F) f2) (M3.view.read (Elt F) f3)))) -∗ Q ⟨⟩))
      ⊢ wp frame (wpE (defs₀ (F := F)) 𝒱₀ (d.tc : Thread nD τ) none) E (cc1__conv_body i M2 h2 M3 h3 M4 h4) Q := by
  iintro ⟨H2, H3, H4, Hk⟩
  sl_unfold [cc1__conv_body]
  sl_exec
  sl_step
  iapply Hk
  isplitl [H2]; · iexact H2
  isplitl [H3]; · iexact H3
  iexact H4

/-! ## The stores read back -/

/-- The output block. -/
def convBlock (W : S1x9x384x384.Idx → Elt F .f32) (X : S1x4x384x384.Idx → Elt F .f32) : S1x4x384x384.Idx → Elt F .f32 :=
  fun y => convAt W (image X) (y 1) (y 2) (y 3)

theorem planes_at (W : S1x9x384x384.Idx → Elt F .f32) (o : ℕ) (ho : o + 48 ≤ 384) (k : Fin 9) (r : Fin 48) (q : Fin 384) (h : Fin 384)
    (hh : h.val = o + r.val) : planes W o ho k (ix4 0 0 r q) = W (ix4 0 k h q) := by
  unfold planes
  exact View.ld_unit_apply_of _ _ _ _ _ _ (fun a => match a with | 0 => rfl | 1 => rfl | 2 => hh | 3 => (Nat.zero_add _).symm)

/-- Wherever a strip's store reaches, it leaves the closed form. -/
theorem tile_strip (W : S1x9x384x384.Idx → Elt F .f32) (X : S1x4x384x384.Idx → Elt F .f32) (o : ℕ) (ho : o + 48 ≤ 384) (s0 s1 s2 : FVec F S4x48x384 .f32)
    (h0 : Rows (image X) o s0) (h1 : Rows (image X) (o + 1) s1) (h2 : Rows (image X) (o + 2) s2) (y : S1x4x384x384.Idx) :
    View.TileAt y ![0, 0, o, 0] S1x4x48x384.size (strip s0 s1 s2 (planes W o ho)) (convBlock W X y) := by
  intro x hx
  have e1 : (y 1).val = (x 1).val := (hx 1).trans (Nat.zero_add _)
  have e2 : (y 2).val = o + (x 2).val := hx 2
  have e3 : (y 3).val = (x 3).val := (hx 3).trans (Nat.zero_add _)
  have ex : x = ix4 0 (y 1) (x 2) (y 3) := funext fun a => match a with
    | 0 => Subsingleton.elim (α := Fin 1) _ _
    | 1 => Fin.ext e1.symm
    | 2 => rfl
    | 3 => Fin.ext e3.symm
  rw [ex]
  exact strip_at W (image X) o s0 s1 s2 (planes W o ho) h0 h1 h2 (fun k r q h hh => planes_at W o ho k r q h hh) (y 1) (x 2) (y 3) (y 2) e2

theorem stores_allAt (W : S1x9x384x384.Idx → Elt F .f32) (X : S1x4x384x384.Idx → Elt F .f32) (y : S1x4x384x384.Idx) :
    View.AllAt (stores W X) y (convBlock W X y) := by
  have mid : ∀ (o : ℕ) (ho : o + 1 + 1 + 48 ≤ 384) (L : List (View.Piece (Elt F) S1x4x384x384 .f32)), View.AllAt L y (convBlock W X y) →
      View.AllAt (midPiece W (image X) o ho :: L) y (convBlock W X y) := fun o ho L hL =>
    View.allAt_cons_unit _ _ _ _ L (tile_strip W X (o + 1) _ _ _ _ (rows_mid _ o (by omega) _) (rows_mid _ (o + 1) (by omega) _) (rows_mid _ (o + 1 + 1) (by omega) _) y) hL
  refine View.allAt_cons_unit _ _ _ _ _ (tile_strip W X 336 _ _ _ _ (rows_mid _ 335 (by decide) _) (rows_mid _ 336 (by decide) _) (rows_bottom _) y) ?_
  refine mid _ _ _ (mid _ _ _ (mid _ _ _ (mid _ _ _ (mid _ _ _ (mid _ _ _ ?_)))))
  exact View.allAt_cons_unit _ _ _ _ _ (tile_strip W X 0 _ _ _ _ (rows_top _) (rows_mid _ 0 (by decide) _) (rows_mid _ 1 (by decide) _) y) (View.allAt_nil _ _)

theorem stores_cover (W : S1x9x384x384.Idx → Elt F .f32) (X : S1x4x384x384.Idx → Elt F .f32) (y : S1x4x384x384.Idx) :
    ∃ p ∈ stores W X, y ∈ p.1.set :=
  View.cover_of_tiled_head _ _ _ rfl y

/-- The output's buffer, read after the eight stores. -/
theorem read_stores {κ : Kind} {sp : Space} (v : View sig κ sp S1x4x384x384 .f32) (f : v.ty.Contents (Elt F))
    (W : S1x9x384x384.Idx → Elt F .f32) (X : S1x4x384x384.Idx → Elt F .f32) :
    v.read (Elt F) (v.writes (Elt F) f (stores W X)) = convBlock W X :=
  (View.read_writes_eq_canon v f _ (stores_cover W X)).trans
    (funext fun y => View.canon_eq_of_allAt _ y _ (stores_cover W X y) (stores_allAt W X y))

end Cert.Proof.KernelIdeal

end
-- ==== Proof.KernelIdeal.Region.lean ====
/-
  The TensorCore's pipelined call as one step of the program: from the weights, the image and the output array held
  whole, to the output array at the nine-tap sum of every pixel.

  The grid has 2 by 24 points. Point `t` works on image `t / 24` and on its channels `4 * (t % 24) ..`. It is handed the
  nine weight planes of that image and four channels of the image, and hands back four channels of the output; the 48
  output blocks tile the array.
-/
module

public import proofs.«01_k».proof.Proof.KernelIdeal.Conv

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The result -/

/-- The image with a border of zeros one pixel wide. -/
def bordered (img : S2x96x384x384.Idx → Elt F .f32) (b : Fin 2) (c : Fin 96) (h w : ℕ) : Elt F .f32 :=
  if hw : 1 ≤ h ∧ h ≤ 384 ∧ 1 ≤ w ∧ w ≤ 384 then img (ix4 b c ⟨h - 1, by omega⟩ ⟨w - 1, by omega⟩) else zero32

/-- Every output pixel: the nine taps of the bordered image, each times its own weight, summed in order. -/
def conv (wm : S2x9x384x384.Idx → Elt F .f32) (img : S2x96x384x384.Idx → Elt F .f32) : S2x96x384x384.Idx → Elt F .f32 := fun i =>
  sum9 fun k => FloatOps.mulf (φ := .f32) (bordered img (i 0) (i 1) ((i 2).val + k.val / 3) ((i 3).val + k.val % 3)) (wm (ix4 (i 0) k (i 2) (i 3)))

/-! ## The proof data -/

variable (wm : Dev nD → S2x9x384x384.Idx → Elt F .f32) (img old : Dev nD → S2x96x384x384.Idx → Elt F .f32)

/-- The weight planes and the image channels point `t` is handed. -/
abbrev weightBlock (c : Dev nD) (t : Fin cfg1.N) : S1x9x384x384.Idx → Elt F .f32 := (win1_0.blk t).view.read (Elt F) (wm c)
abbrev imageBlock (c : Dev nD) (t : Fin cfg1.N) : S1x4x384x384.Idx → Elt F .f32 := (win1_1.blk t).view.read (Elt F) (img c)

/-- The proof data: the arrays on entry; after point `t` the inputs' buffers as handed over and the output's at the
    block's result; nothing owed; what the core has waited for stays where the first SparseCore call left it. -/
def dat (c : Dev nD) : Dat τ (Elt F) (HIx 1) ℕ UU ℕ cfg1 c where
  A w := match w with
    | ⟨0, _⟩ => wm c
    | ⟨1, _⟩ => img c
    | ⟨2, _⟩ => old c
  after w t := match w with
    | ⟨0, _⟩ => weightBlock wm c t
    | ⟨1, _⟩ => imageBlock img c t
    | ⟨2, _⟩ => convBlock (weightBlock wm c t) (imageBlock img c t)
  Φ _ := BI.emp
  q _ := fullShare
  owed _ := 0
  recorded _ := {p | (K (F := F)).lev (T c, p.1) p.2 ≤ 8}

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat wm img old c

theorem before_weights (c : Dev nD) (t : Fin cfg1.N) (d) : (dat wm img old c).before 0 t d = weightBlock wm c t :=
  (dat wm img old c).before_in_eq_fetched 0 rfl (fun _ => rfl) (fun _ _ _ => rfl) (fun _ => rfl) t d

theorem before_image (c : Dev nD) (t : Fin cfg1.N) (d) : (dat wm img old c).before 1 t d = imageBlock img c t :=
  (dat wm img old c).before_in_eq_fetched 1 rfl (fun _ => rfl) (fun _ _ _ => rfl) (fun _ => rfl) t d

/-- A staging buffer held at contents read as `X`, as the body takes and returns it. -/
theorem owns_pt (c : Dev nD) {s : Shape} (M : Memref sig .tc .vmem s .f32) (hM : M.IsWhole) (X : s.Idx → Elt F .f32) :
    (owns (c.tc : Thread nD τ) M fullShare X : sProp 𝕄) = iprop(∃ f, ⌜M.view.read (Elt F) f = X⌝ ∗ pt c M f) := by
  unfold owns; rw [hM.set_eq_univ]

theorem body_obligation (c : Dev nD) : BodyObligation (dat wm img old c) (defs₀ (F := F)) 𝒱₀ (none : HIx 1) Set.univ := fun t => by
  rw [bigSep_W1, bigSep_W1]
  simp only [before_weights, before_image]
  rw [show (dat wm img old c).owesAt (none : HIx 1) t.succ = (dat wm img old c).owesAt none t.castSucc from rfl,
    show (dat wm img old c).Φ t.succ = (dat wm img old c).Φ t.castSucc from rfl]
  have e0 := owns_pt (F := F) c (st1_0 t) (hstage1_0 ((cfg1.slots t 0).cast nbuf1_0))
  have e1 := owns_pt (F := F) c (st1_1 t) (hstage1_1 ((cfg1.slots t 1).cast nbuf1_1))
  have e2 := owns_pt (F := F) c (st1_2 t) (hstage1_2 ((cfg1.slots t 2).cast nbuf1_2))
  iintro ⟨HΦ, Howes, ⟨%d0, H0⟩, ⟨%d1, H1⟩, ⟨%d2, H2⟩⟩
  ihave H0 := (show _ ⊢ _ from le_of_eq (e0 _)) $$ H0
  ihave H1 := (show _ ⊢ _ from le_of_eq (e1 _)) $$ H1
  ihave H2 := (show _ ⊢ _ from le_of_eq (e2 _)) $$ H2
  icases H0 with ⟨%f0, %hf0, H0⟩
  icases H1 with ⟨%f1, %hf1, H1⟩
  icases H2 with ⟨%f2, -, H2⟩
  iapply (body_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) f0 f1 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]
  · iapply (show _ ⊢ _ from le_of_eq (e0 _).symm)
    iexists f0; isplitr; · ipureintro; exact hf0
    iexact H0
  isplitl [H1]
  · iapply (show _ ⊢ _ from le_of_eq (e1 _).symm)
    iexists f1; isplitr; · ipureintro; exact hf1
    iexact H1
  iapply (show _ ⊢ _ from le_of_eq (e2 _).symm)
  iexists _; isplitr; swap; · iexact H2
  ipureintro
  rw [read_stores, hf0, hf1]
  rfl

/-! ## The output array after the last point -/

theorem point_lt (t : Fin cfg1.N) : t.val < 48 := lt_of_lt_of_eq t.isLt N_1

theorem index_0 : ∀ t : Fin cfg1.N, win1_0.index t = ![t.val / 24, 0, 0, 0] := by decide +kernel
theorem index_1 : ∀ t : Fin cfg1.N, win1_1.index t = ![t.val / 24, t.val % 24, 0, 0] := by decide +kernel
theorem index_2 : ∀ t : Fin cfg1.N, win1_2.index t = ![t.val / 24, t.val % 24, 0, 0] := by decide +kernel

/-- Where an index of a block lies in the array, window by window. -/
theorem weightBlock_at (c : Dev nD) (t : Fin cfg1.N) (k : Fin 9) (h w : Fin 384) (b : Fin 2) (hb : b.val = t.val / 24) :
    weightBlock wm c t (ix4 0 k h w) = wm c (ix4 b k h w) := by
  refine congrArg (wm c) (funext fun a => Fin.ext ?_)
  show win1_0.index t a * S1x9x384x384.size a + 1 * ((ix4 0 k h w : S1x9x384x384.Idx) a).val = ((ix4 b k h w : S2x9x384x384.Idx) a).val
  rw [index_0]
  match a with
  | 0 => show t.val / 24 * 1 + 1 * 0 = b.val; omega
  | 1 => show 0 * 9 + 1 * k.val = k.val; omega
  | 2 => show 0 * 384 + 1 * h.val = h.val; omega
  | 3 => show 0 * 384 + 1 * w.val = w.val; omega

theorem imageBlock_at (c : Dev nD) (t : Fin cfg1.N) (j : Fin 4) (h w : Fin 384) (b : Fin 2) (hb : b.val = t.val / 24)
    (ch : Fin 96) (hch : ch.val = t.val % 24 * 4 + j.val) :
    imageBlock img c t (ix4 0 j h w) = img c (ix4 b ch h w) := by
  refine congrArg (img c) (funext fun a => Fin.ext ?_)
  show win1_1.index t a * S1x4x384x384.size a + 1 * ((ix4 0 j h w : S1x4x384x384.Idx) a).val = ((ix4 b ch h w : S2x96x384x384.Idx) a).val
  rw [index_1]
  match a with
  | 0 => show t.val / 24 * 1 + 1 * 0 = b.val; omega
  | 1 => show t.val % 24 * 4 + 1 * j.val = ch.val; omega
  | 2 => show 0 * 384 + 1 * h.val = h.val; omega
  | 3 => show 0 * 384 + 1 * w.val = w.val; omega

/-- The block's border is the image's: the block spans whole channels. -/
theorem padded_block (c : Dev nD) (t : Fin cfg1.N) (j : Fin 4) (h w : ℕ) (b : Fin 2) (hb : b.val = t.val / 24)
    (ch : Fin 96) (hch : ch.val = t.val % 24 * 4 + j.val) :
    padded (image (imageBlock img c t)) j h w = bordered (img c) b ch h w := by
  unfold padded bordered
  split
  · rw [image_at]; exact imageBlock_at img c t j _ _ b hb ch hch
  · rfl

theorem flushed_eq (c : Dev nD) (t : Fin cfg1.N) :
    (dat wm img old c).flushed 2 t = (win1_2.blk t).view.read (Elt F) (conv (wm c) (img c)) := by
  show convBlock (weightBlock wm c t) (imageBlock img c t) = _
  funext y
  have hy0 : (y 0).val = 0 := by have := (y 0).isLt; change (y 0).val < 1 at this; omega
  have hy1 : (y 1).val < 4 := (y 1).isLt
  have ht := point_lt t
  have hb : t.val / 24 < 2 := by omega
  have hch : t.val % 24 * 4 + (y 1).val < 96 := by omega
  have hat : (win1_2.blk t).view.read (Elt F) (conv (wm c) (img c)) y
      = conv (wm c) (img c) (ix4 (n0 := 2) (n1 := 96) (n2 := 384) (n3 := 384) ⟨t.val / 24, hb⟩ ⟨t.val % 24 * 4 + (y 1).val, hch⟩ (y 2) (y 3)) := by
    refine congrArg (conv (wm c) (img c)) (funext fun a => Fin.ext ?_)
    show win1_2.index t a * S1x4x384x384.size a + 1 * (y a).val = _
    rw [index_2]
    match a with
    | 0 => show t.val / 24 * 1 + 1 * (y 0).val = t.val / 24; omega
    | 1 => show t.val % 24 * 4 + 1 * (y 1).val = t.val % 24 * 4 + (y 1).val; omega
    | 2 => show 0 * 384 + 1 * (y 2).val = (y 2).val; omega
    | 3 => show 0 * 384 + 1 * (y 3).val = (y 3).val; omega
  rw [hat]
  unfold convBlock convAt conv
  refine congrArg sum9 (funext fun k => ?_)
  exact congrArg₂ (FloatOps.mulf (φ := .f32)) (padded_block img c t (y 1) _ _ _ rfl _ rfl) (weightBlock_at wm c t k (y 2) (y 3) _ rfl)

theorem mem_blk (t : Fin cfg1.N) (i : S2x96x384x384.Idx) :
    i ∈ ((cfg1.win 2).blk t).view.set ↔ (i 0).val = t.val / 24 ∧ (i 1).val / 4 = t.val % 24 := by
  show i ∈ ((View.whole main_v6).slice (win1_2.rect t)).set ↔ _
  rw [View.set_slice_whole, Rect.mem_set_unit]
  have hi2 : (i 2).val < 384 := (i 2).isLt
  have hi3 : (i 3).val < 384 := (i 3).isLt
  have hs : ∀ a, (win1_2.index t a * S1x4x384x384.size a ≤ (i a).val ∧ (i a).val < win1_2.index t a * S1x4x384x384.size a + S1x4x384x384.size a)
      ↔ ((![t.val / 24, t.val % 24, 0, 0] : Fin 4 → ℕ) a * S1x4x384x384.size a ≤ (i a).val
        ∧ (i a).val < (![t.val / 24, t.val % 24, 0, 0] : Fin 4 → ℕ) a * S1x4x384x384.size a + S1x4x384x384.size a) := fun a => by rw [index_2]
  refine ⟨fun h => ?_, fun h a => (hs a).2 ?_⟩
  · have h0 : t.val / 24 * 1 ≤ (i 0).val ∧ (i 0).val < t.val / 24 * 1 + 1 := (hs 0).1 (h 0)
    have h1 : t.val % 24 * 4 ≤ (i 1).val ∧ (i 1).val < t.val % 24 * 4 + 4 := (hs 1).1 (h 1)
    omega
  · match a with
    | 0 => show t.val / 24 * 1 ≤ (i 0).val ∧ (i 0).val < t.val / 24 * 1 + 1; omega
    | 1 => show t.val % 24 * 4 ≤ (i 1).val ∧ (i 1).val < t.val % 24 * 4 + 4; omega
    | 2 => show 0 * 384 ≤ (i 2).val ∧ (i 2).val < 0 * 384 + 384; omega
    | 3 => show 0 * 384 ≤ (i 3).val ∧ (i 3).val < 0 * 384 + 384; omega

theorem cover (i : S2x96x384x384.Idx) : ∃ t : Fin cfg1.N, (cfg1.win 2).flush t = true ∧ i ∈ ((cfg1.win 2).blk t).view.set := by
  have h0 : (i 0).val < 2 := (i 0).isLt
  have h1 : (i 1).val < 96 := (i 1).isLt
  refine ⟨⟨(i 0).val * 24 + (i 1).val / 4, lt_of_lt_of_eq (by omega) N_1.symm⟩, flush1_2 _, (mem_blk _ _).2 ?_⟩
  dsimp only
  omega

/-- The output array after the call. -/
theorem final_out (c : Dev nD) : (dat wm img old c).arrAt 2 cfg1.N = conv (wm c) (img c) :=
  (dat wm img old c).arrAt_eq_of_cover 2 (conv (wm c) (img c)) (fun t _ => flushed_eq wm img old c t) cover

/-! ## The call over the thread state -/

/-- What the core owes between the two calls: nothing, and nothing above the first call's levels waited for. -/
abbrev idle (c : Dev nD) : sProp 𝕄 :=
  iprop(∃ W, ⌜(K (F := F)).WBelow (T c) W 8⌝ ∗ owes (T c) (0 : CellTallies nD τ sig (HIx 1)) W)

abbrev wmLoc (d : Dev nD) : Loc nD τ sig := (SparseCore.T d).loc main_v5
abbrev resLoc (d : Dev nD) : Loc nD τ sig := (SparseCore.T d).loc main_v6

/-- A buffer held at equal contents. -/
theorem held_congr {ℓ : Loc nD τ sig} {f f' : Buf (Elt F) ℓ} (h : f = f') : (ℓ ↦{fullShare} f : sProp 𝕄) ⊢ ℓ ↦{fullShare} f' := by
  subst h; exact BI.Entails.refl _

/-- The windows' arrays, one by one. -/
theorem arrays_three (c : Dev nD) (f : (w : Fin cfg1.W) → Buf (Elt F) ((cfg1.win w).arr.view.loc (c.tc : Thread nD τ))) :
    ((dat wm img old c).arrays f : sProp 𝕄) = iprop((wmLoc c ↦{fullShare} f 0) ∗ (imgLoc c ↦{fullShare} f 1) ∗ (resLoc c ↦{fullShare} f 2)) :=
  (Pipeline.arrays_eq (p := (0 : Fin 1)) (Pipeline.pin (pcfgs (F := F)) adm) (pdats wm img old) c arr_whole1
    ((dat wm img old c).share_full fun _ => rfl) f).trans (bigSep_W1 _)

variable (L : GSem nD τ sig → Finset (HIx 1)) (lv : GSem nD τ sig → HIx 1 → ℕ)

set_option backward.isDefEq.respectTransparency.types false in
def reg : Pipeline.RegionSeg (pcfgs (F := F)) adm (pdats wm img old) (none : HIx 1) defs₀ 𝒱₀ L lv 0 where
  win := launch1.win.to₀
  block_pos := launch1.block_pos
  stage_whole := launch1.stage_whole
  K := PEmpty
  osem k := k.elim
  ho := Pipeline.OwnSemFacts.none _
  hbody c := (body_obligation wm img old c).loose
  hwaits := Pipeline.hwaits_of_owed_zero _ _ _ _ L lv 0 fun _ _ => rfl
  pre c := iprop((wmLoc c ↦{fullShare} wm c) ∗ (imgLoc c ↦{fullShare} img c) ∗ (resLoc c ↦{fullShare} old c) ∗ idle (F := F) c)
  post c := iprop((wmLoc c ↦{fullShare} wm c) ∗ (imgLoc c ↦{fullShare} img c) ∗ (resLoc c ↦{fullShare} conv (wm c) (img c)) ∗ idle (F := F) c)
  X _ := BI.emp
  Y _ := BI.emp
  Z _ := BI.emp
  hentry c := by
    rw [Pipeline.ownSems0_none]
    iintro ⟨⟨H0, H1, H2, HO⟩, -, -⟩
    imodintro
    isplitl [H0 H1 H2]
    · iapply (show _ ⊢ _ from le_of_eq (arrays_three wm img old c _).symm)
      isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats wm img old 0 c).Φ 0 = BI.emp from rfl]
    iintro ⟨-, -, -⟩; iempintro
  hout c := by
    rw [Pipeline.ownSems0_none, show (pdats wm img old 0 c).Φ (Fin.last _) = BI.emp from rfl]
    iintro -
    isplitr; · iempintro
    isplitr; · iempintro
    iapply (show _ ⊢ _ from le_of_eq (scopedRest1_eq c).symm)
    iempintro
  hexit c := by
    iintro ⟨Ha, HO, -, -⟩
    ihave Ha := (show _ ⊢ _ from le_of_eq (arrays_three wm img old c _)) $$ Ha
    icases Ha with ⟨H0, H1, H2⟩
    imodintro
    isplitl [H0]
    · iapply (held_congr ((dat wm img old c).arrAt_in 0 rfl _)); iexact H0
    isplitl [H1]
    · iapply (held_congr ((dat wm img old c).arrAt_in 1 rfl _)); iexact H1
    isplitl [H2]
    · iapply (held_congr (final_out wm img old c)); iexact H2
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.KernelIdeal

end
-- ==== Proof.KernelIdeal.Main.lean ====
/-
  The program on the TensorCore: the bank and the buckets laid out flat, the SparseCore call, the weights laid out again,
  the TensorCore's pipelined call. The run of the whole program, with its result as a function of the arguments.
-/
module

public import proofs.«01_k».proof.Proof.KernelIdeal.Launch
public import proofs.«01_k».proof.Proof.KernelIdeal.Region

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What each step leaves, from the arguments -/

/-- The bank laid out flat: image, tap, bucket. -/
def flatBank (x : S2x64x3x3.Idx → Elt F .f32) : S1152.Idx → Elt F .f32 :=
  shapeCast S1152 (transpose S2x9x64 [0, 2, 1] (shapeCast S2x64x9 x shapeCasts_S2x64x3x3_S2x64x9) transposes_S2x64x9_S2x9x64_0_2_1) shapeCasts_S2x9x64_S1152

/-- The buckets laid out flat. -/
def flatBucket (x : S2x384x384.Idx → Elt F .i32) : S294912.Idx → Elt F .i32 := shapeCast S294912 x shapeCasts_S2x384x384_S294912

/-- The weights the SparseCore call leaves, as nine planes an image. -/
def planesOf (bank : S2x64x3x3.Idx → Elt F .f32) (bucket : S2x384x384.Idx → Elt F .i32) : S2x9x384x384.Idx → Elt F .f32 :=
  shapeCast S2x9x384x384 (weights (flatBank bank) (flatBucket bucket)) shapeCasts_S2654208_S2x9x384x384

/-- The program's result. -/
def output (img : S2x96x384x384.Idx → Elt F .f32) (bank : S2x64x3x3.Idx → Elt F .f32) (bucket : S2x384x384.Idx → Elt F .i32) :
    S2x96x384x384.Idx → Elt F .f32 :=
  conv (planesOf bank bucket) img

variable (m : (ℓ : Loc nD τ sig) → Buf (Elt F) ℓ) (ρ : Dev nD → PrngReg)

abbrev argBank (d : Dev nD) : S2x64x3x3.Idx → Elt F .f32 := m ((SparseCore.T d).loc main_arg1)
abbrev argBucket (d : Dev nD) : S2x384x384.Idx → Elt F .i32 := m ((SparseCore.T d).loc main_arg2)

abbrev callBank (d : Dev nD) : S1152.Idx → Elt F .f32 := flatBank (argBank m d)
abbrev callBucket (d : Dev nD) : S294912.Idx → Elt F .i32 := flatBucket (argBucket m d)
abbrev callOut (d : Dev nD) : S2654208.Idx → Elt F .f32 := m (outLoc d)
abbrev regWeights (d : Dev nD) : S2x9x384x384.Idx → Elt F .f32 := planesOf (argBank m d) (argBucket m d)
abbrev regImage (d : Dev nD) : S2x96x384x384.Idx → Elt F .f32 := m (imgLoc d)
abbrev regOld (d : Dev nD) : S2x96x384x384.Idx → Elt F .f32 := m (resLoc d)

/-- The SparseCore call's payloads at this memory. -/
abbrev PM : (K (F := F)).Pay (nD := nD) (Val := Elt F) (Name := ℕ) (U := UU) := P (callBank m) (callBucket m) (callOut m)

/-! ## A host operation between two buffers -/

include m in
/-- A host operation that reads one buffer and writes another: the first stays, the second ends at the operation's value. -/
theorem wp_pair (d : Dev nD) (op : HloOp τ sig (Elt F)) (x y : Ref sig .tc) (hxy : x ≠ y)
    (hb : op.bufs ⊆ {Proc.devRef .tc x, Proc.devRef .tc y}) (hf : op.fresh = ∅)
    (f : Buf (Elt F) ((SparseCore.T d).loc x)) (g g' : Buf (Elt F) ((SparseCore.T d).loc y))
    (hx : ∀ W : Valuation τ sig (Elt F), op.result W (Proc.devRef .tc x) = W (Proc.devRef .tc x))
    (hy : ∀ W : Valuation τ sig (Elt F), W (Proc.devRef .tc x) = f → op.result W (Proc.devRef .tc y) = g')
    (Q : PUnit → sProp 𝕄) :
    iprop(boundary (SparseCore.T d) ∗ ((SparseCore.T d).loc x ↦{fullShare} f) ∗ ((SparseCore.T d).loc y ↦{fullShare} g)
        ∗ ((boundary (SparseCore.T d) ∗ ((SparseCore.T d).loc x ↦{fullShare} f) ∗ ((SparseCore.T d).loc y ↦{fullShare} g')) -∗ Q ⟨⟩))
      ⊢ wp frame (wpE ((K (F := F)).defs (D (F := F))) 𝒱 (SparseCore.T d) none) Set.univ (hlo rfl op fun _ => .ret ⟨⟩) Q := by
  have hne : (Proc.devRef .tc x : DevRef τ sig) ≠ Proc.devRef .tc y := StableHlo.devRef_ne_of_ne hxy
  have hheld : ∀ W : Valuation τ sig (Elt F), (StableHlo.held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := fun W => by
    unfold StableHlo.held
    rw [SparseCore.bigSep_insert' (by rw [Finset.mem_singleton]; exact hne), bigSep_singleton]
  let W₀ : Valuation τ sig (Elt F) := fun b => m (d, b)
  let W : Valuation τ sig (Elt F) := Function.update (Function.update W₀ (Proc.devRef .tc x) f) (Proc.devRef .tc y) g
  have ex : W (Proc.devRef .tc x) = f := (Function.update_of_ne hne _ _).trans (Function.update_self _ _ _)
  have ey : W (Proc.devRef .tc y) = g := Function.update_self _ _ _
  have e₀ := hheld W
  have e₁ := hheld (op.result W)
  rw [ex, ey] at e₀
  rw [hx, ex, hy W ex] at e₁
  iintro ⟨Hb, Hx, Hy, Hk⟩
  iapply (StableHlo.wp_hlo_within 𝒱 (SparseCore.T d) none Set.univ hb (V := W) hf) $$ [Hb Hx Hy]
  · isplitl [Hb]; · iexact Hb
    rw [e₀]
    isplitl [Hx] <;> iassumption
  iintro ⟨Hb, H⟩
  ihave H := (show _ ⊢ _ from le_of_eq e₁) $$ H
  icases H with ⟨Hx, Hy⟩
  rw [wp_ret]
  imodintro
  iapply Hk
  isplitl [Hb]; · iexact Hb
  isplitl [Hx] <;> iassumption

/-! ## The program on the TensorCore -/

abbrev bankArg (d : Dev nD) : Loc nD τ sig := (SparseCore.T d).loc main_arg1
abbrev bucketArg (d : Dev nD) : Loc nD τ sig := (SparseCore.T d).loc main_arg2

omit [FloatOps F] in
theorem unscopedBufs_eq (d : Dev nD) (W : (b : Ref sig .tc) → Buf (Elt F) ((d.tc : Thread nD τ).loc b)) :
    (unscopedBufs d W : sProp 𝕄) = iprop((imgLoc d ↦{fullShare} W main_arg0) ∗ (bankArg d ↦{fullShare} W main_arg1) ∗ (bucketArg d ↦{fullShare} W main_arg2)
      ∗ ((SparseCore.T d).loc main_v0 ↦{fullShare} W main_v0) ∗ ((SparseCore.T d).loc main_v1 ↦{fullShare} W main_v1)
      ∗ (bankLoc d ↦{fullShare} W main_v2) ∗ (bucketLoc d ↦{fullShare} W main_v3) ∗ (outLoc d ↦{fullShare} W main_v4)
      ∗ (wmLoc d ↦{fullShare} W main_v5) ∗ resLoc d ↦{fullShare} W main_v6) := by
  unfold unscopedBufs
  rw [show (Finset.univ.filter fun b : Ref sig .tc => ¬ b.isScoped)
      = {main_arg0, main_arg1, main_arg2, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem phinj : Function.Injective (Pipeline.cellOf (nD := nD) (τ := τ) (Pipeline.pin (pcfgs (F := F)) adm)) := cellOf_inj

/-- The pipelined call's own resources on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

abbrev out (d : Dev nD) : S2x96x384x384.Idx → Elt F .f32 := output (regImage m d) (argBank m d) (argBucket m d)

/-- What the program leaves: the arguments as they were and the result. -/
abbrev FIN (d : Dev nD) : sProp 𝕄 :=
  iprop((imgLoc d ↦{fullShare} m (imgLoc d)) ∗ (bankArg d ↦{fullShare} m (bankArg d)) ∗ (bucketArg d ↦{fullShare} m (bucketArg d))
    ∗ resLoc d ↦{fullShare} out m d)

/-- The pipelined call, as the certificate's own program and in the whole program. -/
abbrev regionCall : Prog (TpuEff nD τ sig (Elt F) (ΛP (F := F)) .tc) PUnit := .op (.customCall (Pipeline.entry 0) ()) fun _ => .ret ⟨⟩

theorem lift_regionCall : SparseCore.liftProg (Q := 1) (regionCall (F := F))
    = Prog.lift (.customCall (SparseCore.inner (Pipeline.entry 0)) ()) := rfl

/-- What the pipelined call is entered with, and what it hands on. -/
abbrev regionState (κ : GSem nD τ sig → ℕ) (d : Dev nD) (Q : PUnit → sProp 𝕄) : sProp 𝕄 :=
    iprop((K (F := F)).ctx EH (PM m) κ ∗ (K (F := F)).tcSt EH d 1 ∗ boundary (SparseCore.T d) ∗ G (F := F) d
        ∗ ((wmLoc d ↦{fullShare} regWeights m d) ∗ (imgLoc d ↦{fullShare} regImage m d) ∗ (resLoc d ↦{fullShare} regOld m d))
        ∗ (((K (F := F)).tcSt EH d 1 ∗ boundary (SparseCore.T d)
          ∗ ((wmLoc d ↦{fullShare} regWeights m d) ∗ (imgLoc d ↦{fullShare} regImage m d) ∗ (resLoc d ↦{fullShare} out m d))) -∗ Q ⟨⟩))

/-- The pipelined call, from the state the SparseCore call leaves. -/
theorem wp_regionCall (κ : GSem nD τ sig → ℕ) (d : Dev nD) (Q : PUnit → sProp 𝕄) :
    regionState m κ d Q ⊢ wp frame (wpE (D (F := F)) 𝒱 (SparseCore.T d) none) Set.univ regionCall Q := by
  unfold regionState
  iintro ⟨#Hctx, Hst, Hb, ⟨Hg, Ht⟩, ⟨Hw, Hi, Ho⟩, Hk⟩
  ihave Hlev := (SparseCore.Cfg.ctx_levAts κ) $$ Hctx
  unfold SparseCore.Cfg.tcSt
  rw [(K (F := F)).Otc_end d (le_refl 1)]
  icases Hst with ⟨HO, Hrest⟩
  iapply (Pipeline.RegionSeg.wp (pcfgs (F := F)) adm (pdats (regWeights m) (regImage m) (regOld m)) (none : HIx 1) phinj EP defs₀ 𝒱₀
    (K (F := F)).L (K (F := F)).lev (reg (regWeights m) (regImage m) (regOld m) (K (F := F)).L (K (F := F)).lev) d none (fun _ h => nomatch h) _ Q)
  isplitl [Hk Hrest]
  · iintro ⟨Hb, Hpost⟩
    ihave Hpost := (show (reg (regWeights m) (regImage m) (regOld m) (K (F := F)).L (K (F := F)).lev).post d
      ⊢ iprop((wmLoc d ↦{fullShare} regWeights m d) ∗ (imgLoc d ↦{fullShare} regImage m d) ∗ (resLoc d ↦{fullShare} out m d) ∗ idle (F := F) d)
      from BI.Entails.refl _) $$ Hpost
    icases Hpost with ⟨Hw, Hi, Ho, HO⟩
    rw [wp_ret]
    imodintro
    iapply Hk
    isplitl [HO Hrest]
    · isplitl [HO]; · iexact HO
      iexact Hrest
    isplitl [Hb]; · iexact Hb
    isplitl [Hw]; · iexact Hw
    isplitl [Hi]; · iexact Hi
    iexact Ho
  isplitl [Hb]; · iexact Hb
  isplitl [Hw Hi Ho HO]
  · iapply (show iprop((wmLoc d ↦{fullShare} regWeights m d) ∗ (imgLoc d ↦{fullShare} regImage m d) ∗ (resLoc d ↦{fullShare} regOld m d) ∗ idle (F := F) d)
      ⊢ (reg (regWeights m) (regImage m) (regOld m) (K (F := F)).L (K (F := F)).lev).pre d from BI.Entails.refl _)
    isplitl [Hw]; · iexact Hw
    isplitl [Hi]; · iexact Hi
    isplitl [Ho]; · iexact Ho
    iexact HO
  isplitr; · iexact Hlev
  isplitl [Hg] <;> iassumption

/-- The same in the whole program. -/
theorem wp_region (κ : GSem nD τ sig → ℕ) (d : Dev nD) (Q : PUnit → sProp 𝕄) :
    regionState m κ d Q
      ⊢ wp frame (wpE ((K (F := F)).defs (D (F := F))) 𝒱 (SparseCore.T d) none) Set.univ
          (Prog.lift (.customCall (SparseCore.inner (Pipeline.entry 0)) ())) Q :=
  (wp_regionCall m κ d Q).trans ((K (F := F)).wp_liftProg (D (F := F)) 𝒱 (SparseCore.T d) Set.univ none regionCall Q)

/-- The whole program on device `d`'s TensorCore. -/
theorem hmain (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hk, Hu, H0, H1, H2, H3, H4, H5, H6⟩, Hts, -⟩, HG⟩
  iapply (wp_pair m d _ main_arg1 main_v0 (by decide) (Finset.Subset.refl _) rfl _ _ _ (fun W => StableHlo.reshape_result_ne _ _ _ _ _ _ W (by decide))
    (fun W hW => (StableHlo.reshape_result _ _ _ _ _ _ W).trans (by rw [hW])) _)
  isplitl [Hb]; · iexact Hb
  isplitl [Hk]; · iexact Hk
  isplitl [H0]; · iexact H0
  iintro ⟨Hb, Hk, H0⟩
  iapply (wp_pair m d _ main_v0 main_v1 (by decide) (Finset.Subset.refl _) rfl _ _ _ (fun W => StableHlo.unary_result_ne _ _ _ _ _ W (by decide))
    (fun W hW => (StableHlo.unary_result _ _ _ _ _ W).trans (by rw [hW])) _)
  isplitl [Hb]; · iexact Hb
  isplitl [H0]; · iexact H0
  isplitl [H1]; · iexact H1
  iintro ⟨Hb, -, H1⟩
  iapply (wp_pair m d _ main_v1 main_v2 (by decide) (Finset.Subset.refl _) rfl _ _ (callBank m d) (fun W => StableHlo.reshape_result_ne _ _ _ _ _ _ W (by decide))
    (fun W hW => (StableHlo.reshape_result _ _ _ _ _ _ W).trans (by rw [hW]; rfl)) _)
  isplitl [Hb]; · iexact Hb
  isplitl [H1]; · iexact H1
  isplitl [H2]; · iexact H2
  iintro ⟨Hb, -, H2⟩
  iapply (wp_pair m d _ main_arg2 main_v3 (by decide) (Finset.Subset.refl _) rfl _ _ (callBucket m d) (fun W => StableHlo.reshape_result_ne _ _ _ _ _ _ W (by decide))
    (fun W hW => (StableHlo.reshape_result _ _ _ _ _ _ W).trans (by rw [hW]; rfl)) _)
  isplitl [Hb]; · iexact Hb
  isplitl [Hu]; · iexact Hu
  isplitl [H3]; · iexact H3
  iintro ⟨Hb, Hu, H3⟩
  ihave Hd := (deal_cores (callBank m) (callBucket m) (callOut m) d) $$ [H2 H3 H4]
  · isplitl [H2]; · iexact H2
    isplitl [H3] <;> iassumption
  icases Hd with ⟨Hgo, Hback⟩
  iapply ((K (F := F)).wp_run (D (F := F)) 𝒱 (EH := EH) (P := PM m) κ d 0)
  isplitr; · iexact Hctx
  isplitl [Hst]; · iexact Hst
  isplitl [Hgo]; · iexact Hgo
  iintro ⟨Hst, Hdn⟩
  ihave Hd := Hback $$ Hdn
  icases Hd with ⟨-, -, H4⟩
  iapply (wp_pair m d _ main_v4 main_v5 (by decide) (Finset.Subset.refl _) rfl _ _ (regWeights m d) (fun W => StableHlo.reshape_result_ne _ _ _ _ _ _ W (by decide))
    (fun W hW => (StableHlo.reshape_result _ _ _ _ _ _ W).trans (by rw [hW]; rfl)) _)
  isplitl [Hb]; · iexact Hb
  isplitl [H4]; · iexact H4
  isplitl [H5]; · iexact H5
  iintro ⟨Hb, -, H5⟩
  iapply (wp_region m κ d _)
  isplitr; · iexact Hctx
  isplitl [Hst]; · iexact Hst
  isplitl [Hb]; · iexact Hb
  isplitl [HG]; · iexact HG
  isplitl [H5 Hi H6]
  · isplitl [H5]; · iexact H5
    isplitl [Hi] <;> iassumption
  iintro ⟨Hst, Hb, -, Hi, H6⟩
  imodintro
  isplitl [Hst]; · iexact Hst
  isplitr [Hb Hts]
  · isplitl [Hi]; · iexact Hi
    isplitl [Hk]; · iexact Hk
    isplitl [Hu]; · iexact Hu
    iexact H6
  isplitl [Hb] <;> iassumption

/-! ## The launch's ghost state -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

omit [FloatOps F] in
/-- The program has one pipelined call. -/
theorem one_pipeline (Φ : Fin 1 → Dev nD → sProp 𝕄) :
    (bigSep Finset.univ fun d : Dev nD => bigSep Finset.univ fun p : Fin 1 => Φ p d) ⊢ bigSep Finset.univ fun d : Dev nD => Φ 0 d :=
  le_of_eq (bigSep_congr fun d _ => bigSep_univ_of_subsingleton (Φ := fun p => Φ p d) (0 : Fin 1))

omit [FloatOps F] in
theorem bigSep_none {I : Type} (s : Finset I) : (bigSep s fun _ => iprop(emp)) = (iprop(emp) : sProp 𝕄) := bigSep_emp_const s

omit [FloatOps F] in
theorem own_EP (a : UP) : (BI.own (((Emb.inl : Emb UP (UP × Counters)).trans (embR : Emb (UP × Counters) 𝕄)) a) : sProp 𝕄) ⊢ BI.own (EP a) := by
  unfold EP; exact BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  ihave HP := (own_EP _) $$ HP
  imod (Pipeline.fund_ghost (Pipeline.pin (pcfgs (F := F)) adm) EP phinj) $$ HP with ⟨Hc, Ht⟩
  imodintro
  isplitl [HH]; · iexact HH
  isplitl [Hc Ht]
  · rw [bigSep_sep']
    isplitl [Hc]
    · iapply (one_pipeline fun p d => Pipeline.cellsGhost (Pipeline.pin (pcfgs (F := F)) adm) EP p d); iexact Hc
    · iapply (one_pipeline fun p d => Pipeline.toksInit (Pipeline.pin (pcfgs (F := F)) adm) EP p d); iexact Ht
  rw [show (fun thr : Thread nD τ => bigSep Finset.univ fun q : Fin 1 => (PM (F := F) m).x q thr) = fun _ => iprop(emp) from
    funext fun _ => bigSep_univ_of_subsingleton (0 : Fin 1), bigSep_none]
  iempintro

/-! ## The run -/

def fq (d : Dev nD) (s' : Phys nD τ sig (Elt F)) : Prop :=
  s'.mem.mem (resLoc d) = out m d ∧ s'.mem.mem (imgLoc d) = m (imgLoc d) ∧ s'.mem.mem (bankArg d) = m (bankArg d) ∧ s'.mem.mem (bucketArg d) = m (bucketArg d)

/-- A buffer held whole is what the memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hi, Hk, Hu, Ho⟩, HSI⟩
  ihave H := (agree s' _ _) $$ [Hi HSI]; · isplitl [Hi] <;> iassumption
  icases H with ⟨%h1, HSI⟩
  ihave H := (agree s' _ _) $$ [Hk HSI]; · isplitl [Hk] <;> iassumption
  icases H with ⟨%h2, HSI⟩
  ihave H := (agree s' _ _) $$ [Hu HSI]; · isplitl [Hu] <;> iassumption
  icases H with ⟨%h3, HSI⟩
  ihave H := (agree s' _ _) $$ [Ho HSI]; · isplitl [Ho] <;> iassumption
  icases H with ⟨%h4, -⟩
  ipureintro; exact ⟨h4, h1, h2, h3⟩

/-- What a finished run leaves: the result, the arguments unchanged, and every semaphore at zero. -/
def QC : PUnit × MemSt nD τ sig (Elt F) → Prop := fun r =>
  (∀ c : Dev nD, r.2.mem (resLoc c) = out m c ∧ r.2.mem (imgLoc c) = m (imgLoc c) ∧ r.2.mem (bankArg c) = m (bankArg c) ∧ r.2.mem (bucketArg c) = m (bucketArg c))
    ∧ r.2.sem = fun _ => 0

/-- Every bucket is a row of the bank. -/
def BucketsOK : Prop := ∀ (d : Dev nD) (x : S2x384x384.Idx), BitVec.toNat (argBucket m d x) < 64

theorem run_main (hpre : BucketsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (callBank m) (callBucket m) (callOut m) facts fun d x => hpre d _)
    (fun q _ => match q with | 0 => SparseCore.Cfg.VecSplit.of_plain (vecSplit (callBank m) (callBucket m) (callOut m)))
    m ρ main (G (F := F)) (FIN m) (u₀ (F := F)) (sep_elim_left.trans (hu₀ m)) (hmain m ρ) (fq m) (hfin m) (QC m) (fun _ h hz => ⟨h, hz⟩)

end Cert.Proof.KernelIdeal

end
-- ==== Proof.Reference.lean ====
/-
  The reference's result, read at a pixel: the padded image, the kernel taken from the bank, and the nine products summed.
-/
module

public import proofs.«01_k».proof.Proof.Gen.ReferenceIdeal
public import proofs.«01_k».proof.Proof.Gen.ReferenceIdeal.Run
public import Idealize.ShloMosaic.Lib.ReduceAll
public import Idealize.ShloMosaic.Lib.WordCmp
public import Idealize.ShloMosaic.Lib.KernelVsHost
public import Idealize.ShloMosaic.Lib.Pipeline.Value
public import Idealize.ShloMosaic.Lib.PointwiseCore

@[expose] public section

set_option maxRecDepth 16384

noncomputable section

namespace Cert.Proof.Reference

open Cert.ReferenceIdeal Cert.ReferenceIdeal.Gen Idealize.ShloMosaic

variable {F : FTy → Type} [FloatOps F]

/-! ## The reference's parts -/

/-- The image inside a border of zeros, one pixel wide. -/
def padded (img : FVec F S2x96x384x384 .f32) : FVec F S2x96x386x386 .f32 :=
  pad S2x96x386x386 ![0, 0, 1, 1] ![0, 0, 1, 1] ![0, 0, 0, 0] img (sitofp .f32 (constantI S_ 32 0#32))
    pads_S2x96x384x384_S2x96x386x386_000_000_110_110 h_S_

/-- The buckets with a negative one counted from the bank's end, on an axis of their own. -/
def wrapped (bucket : IVec S2x384x384 32) : IVec S2x384x384x1 32 :=
  broadcastInDim S2x384x384x1 ![0, 1, 2] bcast_S2x384x384_S2x384x384x1_0_1_2
    (select (cmpi .slt bucket (broadcastInDim S2x384x384 ![] bcast_S_S2x384x384 (constantI S_ 32 0#32)))
      (addi bucket (broadcastInDim S2x384x384 ![] bcast_S_S2x384x384 (constantI S_ 32 64#32))) bucket)

/-- Where a wrapped bucket is a row of the bank. -/
def inBank (bucket : IVec S2x384x384 32) : IVec S2x384x384 1 :=
  Host.reduce IntOp.andi
    (andi (cmpi .sge (wrapped bucket) (broadcastInDim S2x384x384x1 ![] bcast_S_S2x384x384x1 (constantI S_ 32 0#32)))
      (cmpi .sle (wrapped bucket) (broadcastInDim S2x384x384x1 ![0, 1, 2, 3] bcast_S1x1x1x1_S2x384x384x1_0_1_2_3
        (broadcastInDim S1x1x1x1 ![3] bcast_S1_S1x1x1x1_3 (constantI S1 32 63#32)))))
    (constantI S_ 1 1#1) reducesTo_S2x384x384x1_S2x384x384_d3 h_S_

/-- The kernel each pixel takes from the bank. -/
def taken (bank : FVec F S2x64x3x3 .f32) (bucket : IVec S2x384x384 32) : FVec F S2x384x384x3x3 .f32 :=
  select (broadcastInDim S2x384x384x3x3 ![0, 1, 2] bcast_S2x384x384_S2x384x384x3x3_0_1_2 (inBank bucket))
    (Host.gather gather_S2x64x3x3_S2x384x384x1_S2x384x384x3x3_34_1_0_0_1_3_1133 bank (wrapped bucket))
    (broadcastInDim S2x384x384x3x3 ![] bcast_S_S2x384x384x3x3 (constant S_ .f32 0x7FC00000#32))

/-- Each tap's shift stays inside the padded image. -/
theorem image_slices (k : Fin 9) : S2x96x386x386.Slices ![0, 0, k.val / 3, k.val % 3] S2x96x384x384 := by
  revert k; decide

/-- Each tap is an entry of a kernel. -/
theorem kernel_slices (k : Fin 9) : S2x384x384x3x3.Slices ![0, 0, 0, k.val / 3, k.val % 3] S2x384x384x1x1 := by
  revert k; decide

/-- The product at tap `k`: the padded image shifted, times the kernels' entry there. -/
def product (img : FVec F S2x96x384x384 .f32) (bank : FVec F S2x64x3x3 .f32) (bucket : IVec S2x384x384 32) (k : Fin 9) :
    FVec F S2x96x384x384 .f32 :=
  mulf (extractStridedSlice S2x96x384x384 ![0, 0, k.val / 3, k.val % 3] (padded img) (image_slices k))
    (broadcastInDim S2x96x384x384 ![0, 1, 2, 3] bcast_S2x1x384x384_S2x96x384x384_0_1_2_3
      (broadcastInDim S2x1x384x384 ![0, 2, 3] bcast_S2x384x384_S2x1x384x384_0_2_3
        (shapeCast S2x384x384 (extractStridedSlice S2x384x384x1x1 ![0, 0, 0, k.val / 3, k.val % 3] (taken bank bucket) (kernel_slices k))
          shapeCasts_S2x384x384x1x1_S2x384x384)))

/-- Nine arrays added to zeros in order. -/
def total (t : Fin 9 → FVec F S2x96x384x384 .f32) : FVec F S2x96x384x384 .f32 :=
  addf (addf (addf (addf (addf (addf (addf (addf (addf
    (broadcastInDim S2x96x384x384 ![] bcast_S_S2x96x384x384 (constant S_ .f32 0x00000000#32))
    (t 0)) (t 1)) (t 2)) (t 3)) (t 4)) (t 5)) (t 6)) (t 7)) (t 8)

variable (m : (ℓ : Loc nD τ sig) → Buf (Elt F) ℓ) (c : Dev nD)

abbrev img : FVec F S2x96x384x384 .f32 := m ((c.tc : Thread nD τ).loc main_arg0)
abbrev bank : FVec F S2x64x3x3 .f32 := m ((c.tc : Thread nD τ).loc main_arg1)
abbrev bucket : IVec S2x384x384 32 := m ((c.tc : Thread nD τ).loc main_arg2)

/-- The reference's result: its nine products added to zeros in order. -/
theorem result_eq : Value.res_out0 m c = total (product (img m c) (bank m c) (bucket m c)) := by
  unfold Value.res_out0 Value.res_main_v65
  rfl

/-! ## Each part at an index -/

/-- The padded image: the image one pixel in, and the converted zero on the border. -/
theorem padded_apply (x : FVec F S2x96x384x384 .f32) (b : Fin 2) (ch : Fin 96) (h w : Fin 386) :
    padded x (ix4 b ch h w) = if hw : 1 ≤ h.val ∧ h.val ≤ 384 ∧ 1 ≤ w.val ∧ w.val ≤ 384 then
      x (ix4 b ch ⟨h.val - 1, by omega⟩ ⟨w.val - 1, by omega⟩) else FloatOps.sitofp .f32 0#32 := by
  unfold padded
  split
  · rename_i hw
    refine pad_apply_of_inside _ _ _ _ _ _ _ _ _ fun a => ?_
    match a with
    | 0 => show b.val = 0 + b.val * (0 + 1); omega
    | 1 => show ch.val = 0 + ch.val * (0 + 1); omega
    | 2 => show h.val = 1 + (h.val - 1) * (0 + 1); omega
    | 3 => show w.val = 1 + (w.val - 1) * (0 + 1); omega
  · rename_i hw
    have hh := h.isLt; have hww := w.isLt
    by_cases h2 : 1 ≤ h.val ∧ h.val ≤ 384
    · refine (pad_apply_of_not_inside (s := S2x96x384x384) _ _ _ _ _ _ _ _ 3 ?_).trans rfl
      show ¬(1 ≤ w.val ∧ (w.val - 1) % (0 + 1) = 0 ∧ (w.val - 1) / (0 + 1) < 384)
      omega
    · refine (pad_apply_of_not_inside (s := S2x96x384x384) _ _ _ _ _ _ _ _ 2 ?_).trans rfl
      show ¬(1 ≤ h.val ∧ (h.val - 1) % (0 + 1) = 0 ∧ (h.val - 1) / (0 + 1) < 384)
      omega

/-- A bucket below 64 is not wrapped. -/
theorem wrapped_apply (bk : IVec S2x384x384 32) (hbk : ∀ x, (bk x).toNat < 64) (y : S2x384x384x1.Idx) :
    wrapped bk y = bk (ix3 (y 0) (y 1) (y 2)) := by
  have hlt := hbk (ix3 (y 0) (y 1) (y 2))
  have e : IntOp.cmpi .slt (bk (ix3 (y 0) (y 1) (y 2))) 0#32 = 0#1 := by
    rw [WordCmp.cmpi_slt_zero, decide_eq_false (by omega)]; rfl
  refine (broadcastInDim_apply _ _ _ y (ix3 (y 0) (y 1) (y 2)) (by intro a; fin_cases a <;> rfl)).trans ?_
  show Scalar.select (IntOp.cmpi .slt (bk (ix3 (y 0) (y 1) (y 2))) 0#32) _ _ = _
  rw [e]
  rfl

/-- Every pixel's bucket is then in the bank. -/
theorem inBank_apply (bk : IVec S2x384x384 32) (hbk : ∀ x, (bk x).toNat < 64) (y : S2x384x384.Idx) : inBank bk y = 1#1 := by
  refine Host.reduce_andi_one _ _ _ _ _ rfl fun i => ?_
  have hlt := hbk (ix3 (i 0) (i 1) (i 2))
  have e := BitVec.toInt_eq_toNat_of_lt (x := bk (ix3 (i 0) (i 1) (i 2))) (by omega)
  refine IntOp.andi_eq_one.2 ⟨IntOp.cmpi_sge.2 ?_, IntOp.cmpi_sle.2 ?_⟩ <;> rw [wrapped_apply bk hbk i, e]
  · exact Int.natCast_nonneg _
  · show _ ≤ (63 : ℤ)
    omega

/-- The gather's dimension numbers. -/
abbrev dims : GatherDims S2x64x3x3 S2x384x384x1 S2x384x384x3x3 := gather_S2x64x3x3_S2x384x384x1_S2x384x384x3x3_34_1_0_0_1_3_1133

/-- The gather at a pixel and a tap: the bank's entry in the row that the start index names. -/
theorem gather_apply (x : FVec F S2x64x3x3 .f32) (idx : IVec S2x384x384x1 32) (b : Fin 2) (h w : Fin 384) (i j : Fin 3)
    (hlt : (idx (ix4 b h w 0)).toNat < 64) :
    Host.gather dims x idx (ix5 b h w i j) = x (ix4 b ⟨(idx (ix4 b h w 0)).toNat, hlt⟩ i j) := by
  unfold Host.gather
  refine congrArg x (funext fun a => Fin.ext ?_)
  show dims.start (ix5 b h w i j) idx a + dims.batchCoord (ix5 b h w i j) a + dims.offCoord (ix5 b h w i j) a = _
  have kept : ∀ a : Fin 4, a ∈ dims.sKept ↔ 2 ≤ a.val := by decide
  match a with
  | 0 =>
    rw [dims.start_batching _ _ _ (List.mem_singleton.2 rfl), dims.offCoord_eq_zero _ _ (by decide)]
    unfold GatherDims.batchCoord
    rw [dif_pos (show (0 : Fin 4) ∈ dims.operandBatchingDims from List.mem_singleton.2 rfl)]
    show 0 + b.val + 0 = b.val
    omega
  | 1 =>
    rw [dims.batchCoord_eq_zero _ _ (by decide), dims.offCoord_eq_zero _ _ (by decide)]
    unfold GatherDims.start
    have hm : (1 : Fin 4) ∈ dims.startIndexMap := List.mem_singleton.2 rfl
    have hs : dims.siIdx (ix5 b h w i j) ⟨dims.startIndexMap.idxOf 1, List.idxOf_lt_length_iff.2 hm⟩ = ix4 b h w 0 := by
      funext y; refine Fin.ext ?_
      match y with
      | 0 => rfl
      | 1 => rfl
      | 2 => rfl
      | 3 => rfl
    rw [dif_pos hm, hs, BitVec.toInt_eq_toNat_of_lt (by omega)]
    show min (idx (ix4 b h w 0)).toNat 63 + 0 + 0 = (idx (ix4 b h w 0)).toNat
    omega
  | 2 =>
    rw [dims.batchCoord_eq_zero _ _ (by decide)]
    unfold GatherDims.start GatherDims.offCoord
    rw [dif_neg (show ¬(2 : Fin 4) ∈ dims.startIndexMap by decide), dif_pos ((kept 2).2 (by decide))]
    show 0 + 0 + i.val = i.val
    omega
  | 3 =>
    rw [dims.batchCoord_eq_zero _ _ (by decide)]
    unfold GatherDims.start GatherDims.offCoord
    rw [dif_neg (show ¬(3 : Fin 4) ∈ dims.startIndexMap by decide), dif_pos ((kept 3).2 (by decide))]
    show 0 + 0 + j.val = j.val
    omega

/-- The kernel a pixel takes, at a tap. -/
theorem taken_apply (x : FVec F S2x64x3x3 .f32) (bk : IVec S2x384x384 32) (hbk : ∀ x, (bk x).toNat < 64) (b : Fin 2) (h w : Fin 384)
    (i j : Fin 3) : taken x bk (ix5 b h w i j) = x (ix4 b ⟨(bk (ix3 b h w)).toNat, hbk _⟩ i j) := by
  have e : wrapped bk (ix4 b h w 0) = bk (ix3 b h w) := wrapped_apply bk hbk _
  unfold taken
  show Scalar.select (inBank bk _) _ _ = _
  rw [inBank_apply bk hbk]
  show Host.gather dims x (wrapped bk) (ix5 b h w i j) = _
  rw [gather_apply x (wrapped bk) b h w i j (by rw [e]; exact hbk _)]
  congr 2
  exact Fin.ext (congrArg BitVec.toNat e)

/-- The product at a pixel and a tap. -/
theorem product_apply (x : FVec F S2x96x384x384 .f32) (y : FVec F S2x64x3x3 .f32) (bk : IVec S2x384x384 32)
    (hbk : ∀ x, (bk x).toNat < 64) (k : Fin 9) (b : Fin 2) (ch : Fin 96) (h w : Fin 384) :
    product x y bk k (ix4 b ch h w) = FloatOps.mulf (φ := .f32)
      (padded x (ix4 b ch ⟨h.val + k.val / 3, by omega⟩ ⟨w.val + k.val % 3, by omega⟩))
      (y (ix4 b ⟨(bk (ix3 b h w)).toNat, hbk _⟩ ⟨k.val / 3, by omega⟩ ⟨k.val % 3, by omega⟩)) := by
  refine congrArg₂ (FloatOps.mulf (φ := .f32)) ?_ ?_
  · refine extractStridedSlice_apply _ _ _ _ _ fun a => ?_
    match a with
    | 0 => exact (Nat.zero_add _).symm
    | 1 => exact (Nat.zero_add _).symm
    | 2 => exact Nat.add_comm _ _
    | 3 => exact Nat.add_comm _ _
  · rw [broadcastInDim_apply _ _ _ _ (ix4 b 0 h w) (by intro a; fin_cases a <;> rfl),
      broadcastInDim_apply _ _ _ _ (ix3 b h w) (by intro a; fin_cases a <;> rfl),
      shapeCast_apply _ _ _ (ix5 b h w 0 0) (by
        rw [Shape.rowMajor_val_five, Shape.rowMajor_val_three]
        show (((b.val * 384 + h.val) * 384 + w.val) * 1 + 0) * 1 + 0 = (b.val * 384 + h.val) * 384 + w.val
        omega),
      ← taken_apply y bk hbk]
    refine extractStridedSlice_apply _ _ _ _ _ fun a => ?_
    match a with
    | 0 => exact (Nat.zero_add _).symm
    | 1 => exact (Nat.zero_add _).symm
    | 2 => exact (Nat.zero_add _).symm
    | 3 => rfl
    | 4 => rfl

end Cert.Proof.Reference

end
-- ==== Proof.Equation.lean ====
/-
  Over the reals the kernel's result is the reference's: the weight planes are the kernels each pixel takes from the bank,
  tap by tap, and the nine products are added in the same order.
-/
module

public import proofs.«01_k».proof.Proof.KernelIdeal.Main
public import proofs.«01_k».proof.Proof.Reference

@[expose] public section

set_option maxRecDepth 16384

noncomputable section

namespace Cert.Proof.Equation

open Cert.KernelIdeal Cert.KernelIdeal.Gen Cert.Proof.KernelIdeal Idealize.ShloMosaic

variable {F : FTy → Type} [FloatOps F]

/-! ## The weight planes at an index -/

/-- The flat bank: image, then tap, then row. -/
theorem flatBank_apply (x : S2x64x3x3.Idx → Elt F .f32) (b : Fin 2) (k : Fin 9) (e : Fin 64) (p : ℕ)
    (hp : p = b.val * 576 + k.val * 64 + e.val) :
    flatBank x (flat bank_pos p) = x (ix4 b e ⟨k.val / 3, by omega⟩ ⟨k.val % 3, by omega⟩) := by
  unfold flatBank
  refine (shapeCast_apply _ _ _ (ix3 b k e) ?_).trans ?_
  · rw [Shape.rowMajor_val_three, Shape.rowMajor_val_one]
    show (b.val * 9 + k.val) * 64 + e.val = p % 1152
    omega
  refine (transpose_apply _ _ _ _ (ix3 b e k) (by intro a; fin_cases a <;> rfl)).trans ?_
  refine shapeCast_apply _ _ _ _ ?_
  rw [Shape.rowMajor_val_four, Shape.rowMajor_val_three]
  show ((b.val * 64 + e.val) * 3 + k.val / 3) * 3 + k.val % 3 = (b.val * 64 + e.val) * 9 + k.val
  omega

/-- The flat buckets: image, then row, then column. -/
theorem flatBucket_apply (x : S2x384x384.Idx → Elt F .i32) (b : Fin 2) (h w : Fin 384) (p : ℕ)
    (hp : p = b.val * 147456 + h.val * 384 + w.val) : flatBucket (F := F) x (flat bucket_pos p) = x (ix3 b h w) := by
  unfold flatBucket
  refine shapeCast_apply _ _ _ _ ?_
  rw [Shape.rowMajor_val_three, Shape.rowMajor_val_one]
  show (b.val * 384 + h.val) * 384 + w.val = p % 294912
  omega

/-- The weight of output word `n`: the bank's entry at the word's tap, of the row that its pixel's bucket names. -/
theorem weightAt_apply (bank : S2x64x3x3.Idx → Elt F .f32) (bucket : S2x384x384.Idx → Elt F .i32)
    (hbk : ∀ x, BitVec.toNat (bucket x) < 64) (b : Fin 2) (k : Fin 9) (h w : Fin 384) (n : ℕ)
    (hn : n = ((b.val * 9 + k.val) * 384 + h.val) * 384 + w.val) :
    weightAt (flatBank bank) (flatBucket (F := F) bucket) n
      = bank (ix4 b ⟨BitVec.toNat (bucket (ix3 b h w)), hbk _⟩ ⟨k.val / 3, by omega⟩ ⟨k.val % 3, by omega⟩) := by
  have e0 : n / 1327104 = b.val := by omega
  have e1 : n / 147456 % 9 = k.val := by omega
  have e2 : n % 147456 = h.val * 384 + w.val := by omega
  unfold weightAt
  rw [e0, e1, e2, flatBucket_apply bucket b h w _ (by omega)]
  exact flatBank_apply bank b k ⟨BitVec.toNat (bucket (ix3 b h w)), hbk _⟩ _ rfl

/-- Plane `k` at a pixel. -/
theorem planesOf_apply (bank : S2x64x3x3.Idx → Elt F .f32) (bucket : S2x384x384.Idx → Elt F .i32)
    (hbk : ∀ x, BitVec.toNat (bucket x) < 64) (b : Fin 2) (k : Fin 9) (h w : Fin 384) :
    planesOf bank bucket (ix4 b k h w)
      = bank (ix4 b ⟨BitVec.toNat (bucket (ix3 b h w)), hbk _⟩ ⟨k.val / 3, by omega⟩ ⟨k.val % 3, by omega⟩) := by
  have hn : ((b.val * 9 + k.val) * 384 + h.val) * 384 + w.val < 2654208 := by omega
  unfold planesOf
  refine (shapeCast_apply _ _ _ (ix1 ⟨((b.val * 9 + k.val) * 384 + h.val) * 384 + w.val, hn⟩) ?_).trans ?_
  · rw [Shape.rowMajor_val_four, Shape.rowMajor_val_one]
    rfl
  exact weightAt_apply bank bucket hbk b k h w _ rfl

/-! ## The two results -/

/-- The bordered image of the kernel is the padded image of the reference. -/
theorem bordered_eq (img : S2x96x384x384.Idx → Elt Ideal .f32) (b : Fin 2) (c : Fin 96) (h w : Fin 386) :
    bordered img b c h.val w.val = Reference.padded (F := Ideal) img (ix4 b c h w) := by
  rw [Reference.padded_apply]
  unfold bordered
  split
  · rfl
  · exact Ideal.ofBits_zero_f32.trans sitofp_zero.symm

/-- One term of the kernel's sum is one product of the reference. -/
theorem term_eq (img : S2x96x384x384.Idx → Elt Ideal .f32) (bank : S2x64x3x3.Idx → Elt Ideal .f32)
    (bucket : S2x384x384.Idx → Elt Ideal .i32) (hbk : ∀ x, BitVec.toNat (bucket x) < 64) (k : Fin 9) (b : Fin 2) (c : Fin 96) (h w : Fin 384) :
    FloatOps.mulf (φ := .f32) (bordered img b c (h.val + k.val / 3) (w.val + k.val % 3)) (planesOf bank bucket (ix4 b k h w))
      = Reference.product (F := Ideal) img bank bucket k (ix4 b c h w) := by
  refine Eq.trans ?_ (Reference.product_apply (F := Ideal) img bank bucket hbk k b c h w).symm
  exact congrArg₂ (FloatOps.mulf (φ := .f32)) (bordered_eq img b c ⟨h.val + k.val / 3, by omega⟩ ⟨w.val + k.val % 3, by omega⟩)
    (planesOf_apply bank bucket hbk b k h w)

/-- Adding to zeros first changes no sum of nine. -/
theorem total_apply (t : Fin 9 → S2x96x384x384.Idx → Elt Ideal .f32) (i : S2x96x384x384.Idx) :
    Reference.total (F := Ideal) t i = sum9 fun k => t k i := by
  have hz : ∀ x : Elt Ideal .f32, FloatOps.addf (φ := .f32) (Scalar.ofBits (F := Ideal) .f32 0x00000000#32) x = x := fun x => by
    show Ideal.ofBits .f32 0x00000000#32 + x = x
    rw [Ideal.ofBits_zero_f32, zero_add]
  unfold sum9
  dsimp only
  rw [← hz (t 0 i)]
  rfl

/-- The kernel's result at a pixel. -/
theorem output_apply (img : S2x96x384x384.Idx → Elt F .f32) (bank : S2x64x3x3.Idx → Elt F .f32) (bucket : S2x384x384.Idx → Elt F .i32)
    (b : Fin 2) (c : Fin 96) (h w : Fin 384) : output img bank bucket (ix4 b c h w) = sum9 fun k =>
      FloatOps.mulf (φ := .f32) (bordered img b c (h.val + k.val / 3) (w.val + k.val % 3)) (planesOf bank bucket (ix4 b k h w)) := by
  unfold output conv
  rfl

/-- The two results agree at a pixel. -/
theorem output_eq_at (img : S2x96x384x384.Idx → Elt Ideal .f32) (bank : S2x64x3x3.Idx → Elt Ideal .f32)
    (bucket : S2x384x384.Idx → Elt Ideal .i32) (hbk : ∀ x, BitVec.toNat (bucket x) < 64) (b : Fin 2) (c : Fin 96) (h w : Fin 384) :
    Reference.total (Reference.product (F := Ideal) img bank bucket) (ix4 b c h w) = output img bank bucket (ix4 b c h w) := by
  rw [output_apply]
  refine (total_apply _ _).trans (congrArg sum9 (funext fun k => ?_))
  exact (term_eq img bank bucket hbk k b c h w).symm

/-- The two results are one array. -/
theorem output_eq (img : S2x96x384x384.Idx → Elt Ideal .f32) (bank : S2x64x3x3.Idx → Elt Ideal .f32)
    (bucket : S2x384x384.Idx → Elt Ideal .i32) (hbk : ∀ x, BitVec.toNat (bucket x) < 64) :
    Reference.total (Reference.product (F := Ideal) img bank bucket) = output img bank bucket := by
  funext i
  have hi : i = ix4 (n0 := 2) (n1 := 96) (n2 := 384) (n3 := 384) (i 0) (i 1) (i 2) (i 3) := by funext a; fin_cases a <;> rfl
  rw [hi]
  exact output_eq_at img bank bucket hbk _ _ _ _

end Cert.Proof.Equation

end
-- ==== Proof.lean ====
/-
  The claims put together. The kernel's run is `Kernel/Main.lean`'s `run_main`, and its twin's at the exact instance is
  `KernelIdeal/Main.lean`'s; the reference's run is generated.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_buckets_in_range
public import proofs.«01_k».proof.Proof.Buckets
public import proofs.«01_k».proof.Proof.Kernel.Main
public import proofs.«01_k».proof.Proof.KernelIdeal.Main
public import proofs.«01_k».proof.Proof.Reference
public import proofs.«01_k».proof.Proof.Equation

@[expose] public section

noncomputable section

namespace Cert.Proof

open Idealize.ShloMosaic Idealize.SL.Sem

/-- The kernel's own bucket range from the precondition. -/
theorem kernel_buckets (m : (ℓ : Loc Cert.Kernel.nD Cert.Kernel.τ Cert.Kernel.sig) → Buf (Elt Bits) ℓ)
    (h : Cert.Pre_Kernel (hPre_buckets_in_range := Cert.Pre_buckets_in_range.Gen.facts) m) : Kernel.BucketsOK m :=
  fun d x => Cert.Pre_buckets_in_range.bucket_lt _ _ _ (h d) x

/-- The same of the kernel read at the exact instance. -/
theorem kernelIdeal_buckets (m : (ℓ : Loc Cert.KernelIdeal.nD Cert.KernelIdeal.τ Cert.KernelIdeal.sig) → Buf (Elt Ideal) ℓ)
    (h : Cert.Pre_KernelIdeal (hPre_buckets_in_range := Cert.Pre_buckets_in_range.Gen.facts) m) : KernelIdeal.BucketsOK m :=
  fun d x => Cert.Pre_buckets_in_range.bucket_lt _ _ _ (h d) x

/-- The kernel runs, its arguments stay and every counter ends at zero. -/
theorem frame_kernel : Cert.quiescent_Kernel := fun m g h =>
  (θ_run Cert.Kernel.defs _ _).mono (fun _ q => ⟨fun c => (q.1 c).2, q.2⟩) (Kernel.run_main m g (kernel_buckets m h))

/-- The same at the exact instance. -/
theorem frame_kernelIdeal : Cert.quiescent_KernelIdeal := fun m g h =>
  (θ_run Cert.KernelIdeal.defs _ _).mono (fun _ q => ⟨fun c => (q.1 c).2, q.2⟩) (KernelIdeal.run_main m g (kernelIdeal_buckets m h))

/-- The reference runs from every memory and its arguments stay; it has no semaphore. -/
theorem frame_reference : Cert.quiescent_ReferenceIdeal := fun m g _ =>
  (θ_run Cert.ReferenceIdeal.defs _ _).mono (fun r q => ⟨fun c => (q c).2, sem_eq_zero_of_no_sems (by decide) r.2⟩)
    (Cert.ReferenceIdeal.Value.run (F := Ideal) m g)

/-- The same under the precondition. -/
theorem frame_reference_pre : Cert.quiescent_ReferenceIdeal_pre_buckets_in_range := fun m g _ => frame_reference m g trivial

/-- The reference's result is the kernel's when the arguments agree and every bucket is a row of the bank. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h0 : Reference.img m' c = KernelIdeal.regImage m c) (h1 : Reference.bank m' c = KernelIdeal.argBank m c)
    (h2 : Reference.bucket m' c = KernelIdeal.argBucket m c) (hbk : KernelIdeal.BucketsOK m) :
    Cert.ReferenceIdeal.Value.res_out0 m' c = KernelIdeal.out m c := by
  refine (Reference.result_eq m' c).trans ?_
  rw [h0, h1, h2]
  exact Equation.output_eq _ _ _ (hbk c)

/-- Over the reals the kernel and the reference end with one result. -/
theorem algebraic : Cert.algebraic_KernelIdeal_ReferenceIdeal := fun m g m' g' hpre hagree =>
  have hbk := kernelIdeal_buckets m hpre
  ⟨fun c => KernelIdeal.out m c,
    (θ_run Cert.KernelIdeal.defs _ _).mono (fun _ q => q.1) (KernelIdeal.run_main m g hbk),
    (θ_run Cert.ReferenceIdeal.defs _ _).mono
      (fun _ q c => ⟨(q c).1.trans (results_eq m m' c (hagree c).1 (hagree c).2.1 (hagree c).2.2 hbk), (q c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_buckets_in_range.Gen.facts,
    frame_kernel, frame_kernelIdeal, frame_reference, frame_reference_pre, trivial, algebraic⟩

end Cert.Proof

end
